-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S16384x64 : Shape := ⟨2, ![16384, 64]⟩
abbrev S1024x64 : Shape := ⟨2, ![1024, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16384x64 .f32) (main_arg1 : FVec F S1024x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== KernelIdeal.lean ====
abbrev S16384x64 : Shape := ⟨2, ![16384, 64]⟩
abbrev S1024x64 : Shape := ⟨2, ![1024, 64]⟩
abbrev S_ : Shape := ⟨0, ![]⟩
abbrev S1024 : Shape := ⟨1, ![1024]⟩
abbrev S1x1024 : Shape := ⟨2, ![1, 1024]⟩
abbrev S32x1x512 : Shape := ⟨3, ![32, 1, 512]⟩
abbrev S1x1 : Shape := ⟨2, ![1, 1]⟩
abbrev S512x64 : Shape := ⟨2, ![512, 64]⟩
abbrev S1x1x512 : Shape := ⟨3, ![1, 1, 512]⟩
abbrev S512x8 : Shape := ⟨2, ![512, 8]⟩
abbrev S512x4 : Shape := ⟨2, ![512, 4]⟩
abbrev S512x2 : Shape := ⟨2, ![512, 2]⟩
abbrev S512x1 : Shape := ⟨2, ![512, 1]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S16384 : Shape := ⟨1, ![16384]⟩
abbrev S1024x128 : Shape := ⟨2, ![1024, 128]⟩
abbrev S16384x128 : Shape := ⟨2, ![16384, 128]⟩
abbrev S512x128 : Shape := ⟨2, ![512, 128]⟩

abbrev nBuf : Table → Nat
  | .hbm => 17
  | .local .tc .vmem => 9
  | .local .tc .smem => 1
  | .local .scVector .vmem => 2
  | _ => 0

abbrev bufTy : (tb : Table) → Fin (nBuf tb) → BufTy
  | .hbm, ⟨0, _⟩ => ⟨S16384x64, .f32⟩
  | .hbm, ⟨1, _⟩ => ⟨S1024x64, .f32⟩
  | .hbm, ⟨2, _⟩ => ⟨S1024x64, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S32x1x512, .i32⟩
  | .hbm, ⟨7, _⟩ => ⟨S1x1, .f32⟩
  | .hbm, ⟨8, _⟩ => ⟨S1x1, .f32⟩
  | .hbm, ⟨9, _⟩ => ⟨S16384, .i32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S16384x128, .f32⟩
  | .hbm, ⟨14, _⟩ => ⟨S16384x64, .f32⟩
  | .hbm, ⟨15, _⟩ => ⟨S_, .f32⟩
  | .hbm, ⟨16, _⟩ => ⟨S_, .f32⟩
  | .local .tc .vmem, ⟨0, _⟩ => ⟨S512x64, .f32⟩
  | .local .tc .vmem, ⟨1, _⟩ => ⟨S512x64, .f32⟩
  | .local .tc .vmem, ⟨2, _⟩ => ⟨S1024x64, .f32⟩
  | .local .tc .vmem, ⟨3, _⟩ => ⟨S1x1024, .f32⟩
  | .local .tc .vmem, ⟨4, _⟩ => ⟨S1x1x512, .i32⟩
  | .local .tc .vmem, ⟨5, _⟩ => ⟨S1x1x512, .i32⟩
  | .local .tc .vmem, ⟨6, _⟩ => ⟨S1x1, .f32⟩
  | .local .tc .vmem, ⟨7, _⟩ => ⟨S1x1, .f32⟩
  | .local .tc .vmem, ⟨8, _⟩ => ⟨S1x1024, .f32⟩
  | .local .tc .smem, ⟨0, _⟩ => ⟨S1x1, .f32⟩
  | .local .scVector .vmem, ⟨0, _⟩ => ⟨S512, .i32⟩
  | .local .scVector .vmem, ⟨1, _⟩ => ⟨S512x128, .f32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v5_scv : Ref sig .scVector := ⟨.hbm, 12, rfl⟩
abbrev main_v4_scv : Ref sig .scVector := ⟨.hbm, 9, rfl⟩
abbrev main_v6_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v72 : BitVec 1 := Scalar.cmpi .eq arg0 c31_i32
  let v73 : BitVec 32 := Scalar.extui v72
  let c0_i32_24 : BitVec 32 := 0#32
  let v74 : BitVec 1 := Scalar.cmpi .ne v73 c0_i32_24
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S1024x64 : Shape := ⟨2, ![1024, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S64x1024 : Shape := ⟨2, ![64, 1024]⟩
abbrev S16384x1024 : Shape := ⟨2, ![16384, 1024]⟩
abbrev S1x1024 : Shape := ⟨2, ![1, 1024]⟩
abbrev S1 : Shape := ⟨1, ![1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S64x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .i32⟩
  | .hbm, ⟨24, _⟩ => ⟨S_, .f32⟩
  | .hbm, ⟨25, _⟩ => ⟨S_, .i32⟩
  | .hbm, ⟨26, _⟩ => ⟨S16384, .f32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x64, .f32⟩
  | .hbm, ⟨47, _⟩ => ⟨S16384x64, .i1⟩
  | .hbm, ⟨48, _⟩ => ⟨S_, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S16384x64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16384x64, .f32⟩
  | .hbm, ⟨58, _⟩ => ⟨S16384x64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16384x64, .f32⟩
  | .hbm, ⟨67, _⟩ => ⟨S16384x64, .f32⟩
  | .hbm, ⟨68, _⟩ => ⟨S16384x1, .i32⟩
  | .hbm, ⟨69, _⟩ => ⟨S1x1024, .i32⟩
  | .hbm, ⟨70, _⟩ => ⟨S16384x1024, .i32⟩
  | .hbm, ⟨71, _⟩ => ⟨S16384x1024, .i32⟩
  | .hbm, ⟨72, _⟩ => ⟨S16384x1024, .i1⟩
  | .hbm, ⟨73, _⟩ => ⟨S16384x1024, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v31 : Ref sig .tc := ⟨.hbm, 73, rfl⟩
abbrev main_cst_8 : Ref sig .tc := ⟨.hbm, 74, rfl⟩
abbrev main_v32 : Ref sig .tc := ⟨.hbm, 75, rfl⟩
abbrev main_cst_9 : Ref sig .tc := ⟨.hbm, 76, rfl⟩
abbrev main_v33 : Ref sig .tc := ⟨.hbm, 77, rfl⟩
abbrev main_v34 : Ref sig .tc := ⟨.hbm, 78, rfl⟩
abbrev main_cst_10 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_11 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩

abbrev nD : Nat := 1
abbrev τ : Topo := Topo.v7x

variable {F : FTy → Type} [FloatOps F]
-- ==== Proof.ScTask.lean ====
/-
  The SparseCore call: thirty-two tasks, one on each vector subcore of the two SparseCores. Task `(c, s)` copies its
  512 row numbers into its scratch, gathers those rows of the padded codebook into its row scratch, and copies them out
  to its block of the result. Stated here for any contents of the three arrays, the row numbers below 1024: the result's
  block ends holding the rows the numbers name (`gathered`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The grid of the call is its launch's: sixteen subcores of two SparseCores. -/
theorem nSub_zero : (K (F := F)).nSub 0 = 16 := rfl
theorem nCore_zero : (K (F := F)).nCore 0 = 2 := rfl

/-- The launch semaphores are distinct and live outside every region. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes, the pipeline's cells, the copies' counters -/

abbrev UH : Type := URounds (GSem nD τ sig) ℕ
abbrev UPC : Type := UR sig nD τ
abbrev UU : Type := UH × (UPC × Counters)

local notation "𝕄" => MT nD τ sig (HIx 1) (Elt F) ℕ UU ℕ

/-- The handshakes' component. -/
abbrev EH : Emb UH (MT nD τ sig (HIx 1) (Elt F) ℕ UU ℕ) := embL
/-- The pipeline's component. -/
def EP : Emb UPC (MT nD τ sig (HIx 1) (Elt F) ℕ UU ℕ) :=
  ((Emb.inl : Emb UPC (UPC × Counters)).trans (Emb.inr : Emb (UPC × Counters) UU)).trans
    (uEmb (nD := nD) (sig := sig) (Ix := HIx 1) (Val := Elt F) (Name := ℕ) (U := UU) (Lvl := ℕ)).toEmb
instance EP_landsIn : (EP : Emb UPC 𝕄).LandsIn (upEmb : UEmb _ 𝕄) := by unfold EP; infer_instance

/-- The launch element splits into the handshakes' part and the pipeline's. -/
theorem ownU_split (a : UH) (b : UPC) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-! ## The three arrays of the call and their blocks -/

abbrev iLoc (d : Dev nD) : Loc nD τ sig := (SparseCore.T d).loc main_v4
abbrev xLoc (d : Dev nD) : Loc nD τ sig := (SparseCore.T d).loc main_v5
abbrev oLoc (d : Dev nD) : Loc nD τ sig := (SparseCore.T d).loc main_v6

local notation "iV" => (Memref.whole Cert.KernelIdeal.main_v4_scv : Memref Cert.KernelIdeal.sig Kind.scVector Space.hbm Cert.KernelIdeal.S16384 EltTy.i32)
local notation "xV" => (Memref.whole Cert.KernelIdeal.main_v5_scv : Memref Cert.KernelIdeal.sig Kind.scVector Space.hbm Cert.KernelIdeal.S1024x128 EltTy.f32)
local notation "oV" => (Memref.whole Cert.KernelIdeal.main_v6_scv : Memref Cert.KernelIdeal.sig Kind.scVector Space.hbm Cert.KernelIdeal.S16384x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

theorem idiv : 32 ∣ S16384.size 0 := ⟨512, rfl⟩
theorem odiv : 32 ∣ S16384x128.size 0 := ⟨512, rfl⟩
abbrev irow (i : Fin 32) : Rect S16384 := Rect.part (s := S16384) (a₀ := 0) idiv i
abbrev orow (i : Fin 32) : Rect S16384x128 := Rect.part (s := S16384x128) (a₀ := 0) odiv i
abbrev iRowSet (i : Fin 32) : Finset S16384.Idx := ((iV).view.slice (irow i)).set
abbrev oRowSet (i : Fin 32) : Finset S16384x128.Idx := ((oV).view.slice (orow i)).set

/-- Task `(c, s)` is number `2 s + c`. -/
abbrev wid (c : Fin 2) (s : Fin 16) : Fin 32 := ⟨2 * s.val + c.val, by omega⟩

/-- The table's share of task `i`. -/
abbrev xq (i : Fin 32) : PosShare TreeShare := Idealize.ShloMosaic.pieceOf fullShare 32 (by decide) i

/-- Row `r` of the result is row `ix r` of the table. -/
def gathered (tab : S1024x128.Idx → Elt F .f32) (ix : S16384.Idx → Elt F .i32) : S16384x128.Idx → Elt F .f32 := fun x =>
  tab (fun | 0 => ⟨(ix (fun | 0 => x 0)).toNat % 1024, Nat.mod_lt _ (by decide)⟩ | 1 => x 1)

/-! ## What the handshakes carry -/

section Protocol

variable (ix : (d : Dev nD) → Buf (Elt F) (iLoc d)) (tab : (d : Dev nD) → Buf (Elt F) (xLoc d)) (o0 : (d : Dev nD) → Buf (Elt F) (oLoc d))

abbrev iPts (d : Dev nD) : sProp 𝕄 := iLoc d ↦{fullShare} ix d
abbrev xPts (d : Dev nD) : sProp 𝕄 := xLoc d ↦{fullShare} tab d
abbrev oPts (d : Dev nD) (f : Buf (Elt F) (oLoc d)) : sProp 𝕄 := oLoc d ↦{fullShare} f
abbrev iRowPts (d : Dev nD) (i : Fin 32) : sProp 𝕄 := iLoc d ↦[iRowSet i]{fullShare} ix d
abbrev xShPts (d : Dev nD) (i : Fin 32) : sProp 𝕄 := xLoc d ↦{xq i} tab d
abbrev oRowPts (d : Dev nD) (i : Fin 32) (f : Buf (Elt F) (oLoc d)) : sProp 𝕄 := oLoc d ↦[oRowSet i]{fullShare} f

/-- The result of the call: the rows the numbers name. -/
abbrev res (d : Dev nD) : Buf (Elt F) (oLoc d) := gathered (F := F) (tab d) (ix d)

/-- What task `i` is handed: its row numbers, its share of the table, its block of the result. -/
abbrev taskIn (d : Dev nD) (i : Fin 32) : sProp 𝕄 := iprop(iRowPts ix d i ∗ xShPts tab d i ∗ oRowPts d i (o0 d))
/-- What it hands back: the block now at the gathered rows. -/
abbrev taskOut (d : Dev nD) (i : Fin 32) : sProp 𝕄 := iprop(iRowPts ix d i ∗ xShPts tab d i ∗ oRowPts d i (res ix tab d))

/-- A SparseCore is handed its sixteen tasks' parts and hands back theirs. -/
def P : (K (F := F)).Pay (nD := nD) (Val := Elt F) (Name := ℕ) (U := UU) where
  st := fun q d c => match q with | 0 => bigSep Finset.univ fun i : Fin 16 => taskIn ix tab o0 d (wid (Fin.cast nCore_zero c) i)
  dn := fun q d c => match q with | 0 => bigSep Finset.univ fun i : Fin 16 => taskOut ix tab d (wid (Fin.cast nCore_zero c) i)
  go := fun q d c i => match q with | 0 => taskIn ix tab o0 d (wid (Fin.cast nCore_zero c) (Fin.cast nSub_zero i))
  td := fun q d c i => match q with | 0 => taskOut ix tab d (wid (Fin.cast nCore_zero c) (Fin.cast nSub_zero i))
  x := fun _ _ => iprop(emp)

instance P_storable : (P (F := F) ix tab o0).IsStorable where
  st q d c := match q with
    | 0 => (inferInstance : BI.Storable (upEmb : UEmb _ 𝕄) (bigSep Finset.univ fun i : Fin 16 => taskIn ix tab o0 d (wid (Fin.cast nCore_zero c) i)))
  dn q d c := match q with
    | 0 => (inferInstance : BI.Storable (upEmb : UEmb _ 𝕄) (bigSep Finset.univ fun i : Fin 16 => taskOut ix tab d (wid (Fin.cast nCore_zero c) i)))
  go q d c i := match q with
    | 0 => (inferInstance : BI.Storable (upEmb : UEmb _ 𝕄) (taskIn ix tab o0 d (wid (Fin.cast nCore_zero c) (Fin.cast nSub_zero i))))
  td q d c i := match q with
    | 0 => (inferInstance : BI.Storable (upEmb : UEmb _ 𝕄) (taskOut ix tab d (wid (Fin.cast nCore_zero c) (Fin.cast nSub_zero i))))

/-- Every row number names a row of the table. -/
def InRange : Prop := ∀ (d : Dev nD) (j : S16384.Idx), (ix d j).toNat < 1024

/-! ## The task -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev wL (L : grid1.Coords) : Fin 32 := wid (Fin.cast bound_zero (L 0)) (Fin.cast bound_one (L 1))

abbrev irowK (L : grid1.Coords) : Rect S16384 := Rect.unit (s := S16384) (k1_off1 L) S512.size (k1_off1_inb L)
abbrev orowK (L : grid1.Coords) : Rect S16384x128 := Rect.unit (s := S16384x128) (k1_off2 L) S512x128.size (k1_off2_inb L)
/-- The task's row numbers, its block of the result, and all of the table, as the task addresses them. -/
abbrev iRowK (L : grid1.Coords) : Memref sig .scVector .hbm S512 .i32 := (iV).slice (irowK L) (fun _ => rfl)
abbrev oRowK (L : grid1.Coords) : Memref sig .scVector .hbm S512x128 .f32 := (oV).slice (orowK L) (fun _ => rfl)
abbrev xAllK : Memref sig .scVector .hbm S1024x128 .f32 := (xV).slice (Rect.unit (s := S1024x128) ![0, 0] S1024x128.size inb_S1024x128_S1024x128_0_0) (fun _ => rfl)

theorem irowK_eq : irowK L = irow (wL L) := by
  unfold irowK irow Rect.part Rect.block
  congr 1 <;> funext a
  · rw [k1_off1_eq]
    match a with
    | 0 => simp [Shape.partIx, Shape.partSize, wL, wid]; show 1024 * (L 1).val + 512 * (L 0).val = (2 * (L 1).val + (L 0).val) * 512; omega
  · match a with
    | 0 => simp [Shape.partSize]
theorem orowK_eq : orowK L = orow (wL L) := by
  unfold orowK orow Rect.part Rect.block
  congr 1 <;> funext a
  · rw [k1_off2_eq]
    match a with
    | 0 => simp [Shape.partIx, Shape.partSize, wL, wid]; show 1024 * (L 1).val + 512 * (L 0).val = (2 * (L 1).val + (L 0).val) * 512; omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

/-- The task's three copy semaphores are among its own cells. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- The two scratch buffers are among the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- What the copy of the row numbers landed reads, in the scratch, as the task's block of them. -/
theorem idx_read (fs : Buf (Elt F) ((V d (cV L) (jV L)).loc cc1_scratch0)) (pay : S512.Idx → Elt F .i32)
    (hpay : pay = (iRowK L).view.read (Elt F) (ix d)) (x : S512.Idx) :
    (sV).view.read (Elt F) (View.write (Elt F) (sV).view fs pay Finset.univ) x = ix d ((irowK L).emb x) := by
  subst hpay
  rw [View.write_whole_univ]
  simp only [Memref.view_whole, View.read_whole]
  exact (View.read_apply _ _).trans (cast_eq _ _)

/-- so every word of it names a row of the table. -/
theorem inb_of_range (hin : InRange ix) (fs : Buf (Elt F) ((V d (cV L) (jV L)).loc cc1_scratch0)) (pay : S512.Idx → Elt F .i32)
    (hpay : pay = (iRowK L).view.read (Elt F) (ix d)) :
    ∀ x, ((sV).view.read (Elt F) (View.write (Elt F) (sV).view fs pay Finset.univ) x).toNat < S1024x128.size gathers_S1024x128_S512x128.axis := fun x => by
  rw [idx_read ix d L fs pay hpay]
  exact hin d _

/-- The rows written out are the result's, on the task's block. -/
theorem out_eq (hin : InRange ix) (fs : Buf (Elt F) ((V d (cV L) (jV L)).loc cc1_scratch0)) (pay : S512.Idx → Elt F .i32)
    (hpay : pay = (iRowK L).view.read (Elt F) (ix d)) (hn : S512.numel = S512x128.size gathers_S1024x128_S512x128.axis')
    (f0 : Buf (Elt F) (oLoc d)) (w : S512x128.Idx → Elt F .f32)
    (hw : w = SparseCore.gatherPayload gathers_S1024x128_S512x128 ((xAllK).view.read (Elt F) (tab d))
      (SparseCore.rows ((sV).view.read (Elt F) (View.write (Elt F) (sV).view fs pay Finset.univ)) hn (inb_of_range ix d L hin fs pay hpay))) :
    ∀ i ∈ (oRowK L).view.set, View.write (Elt F) (oRowK L).view f0 w Finset.univ i = res ix tab d i := by
  intro i hi
  obtain ⟨j, -, rfl⟩ := Finset.mem_map.mp hi
  refine (View.write_emb_of_mem (v := (oRowK L).view) f0 w (Finset.mem_univ j)).trans ?_
  refine (cast_eq _ _).trans ?_
  subst hw
  unfold SparseCore.gatherPayload
  have hr : ∀ z, (xAllK).view.read (Elt F) (tab d) z = tab d ((Rect.unit (s := S1024x128) ![0, 0] S1024x128.size inb_S1024x128_S1024x128_0_0).emb z) :=
    fun z => (View.read_apply _ _).trans (cast_eq _ _)
  rw [hr]
  unfold res gathered
  refine congrArg (tab d) (funext fun a => ?_)
  match a with
  | 0 =>
    refine Fin.ext ?_
    have e1 : ∀ z : S1024x128.Idx, ((Rect.unit (s := S1024x128) ![0, 0] S1024x128.size inb_S1024x128_S1024x128_0_0).emb z 0).val = (z 0).val :=
      fun z => by show 0 + 1 * (z 0).val = (z 0).val; omega
    refine (e1 _).trans ?_
    refine (congrArg Fin.val (Shape.Gathers.idx_axis gathers_S1024x128_S512x128 _ j)).trans ?_
    show (View.read (Elt F) (sV).view _ _).toNat = (ix d _).toNat % 1024
    rw [idx_read ix d L fs pay hpay, Nat.mod_eq_of_lt (hin d _)]
    refine congrArg (fun z => (ix d z).toNat) (funext fun b => ?_)
    match b with
    | 0 =>
      refine Fin.ext ?_
      show (k1_off1 L) 0 + 1 * _ = (k1_off2 L) 0 + 1 * _
      rw [k1_off1_eq, k1_off2_eq]
      show 1024 * (L 1).val + 512 * (L 0).val + 1 * _ = 1024 * (L 1).val + 512 * (L 0).val + 1 * _
      congr 2
      have h := congrArg Fin.val ((S512.rowMajor).apply_symm_apply ((j 0).cast hn.symm))
      rw [Shape.rowMajor_val_one] at h
      exact h
  | 1 =>
    refine Fin.ext ?_
    have e1 : ∀ z : S1024x128.Idx, ((Rect.unit (s := S1024x128) ![0, 0] S1024x128.size inb_S1024x128_S1024x128_0_0).emb z 1).val = (z 1).val :=
      fun z => by show 0 + 1 * (z 1).val = (z 1).val; omega
    refine (e1 _).trans ?_
    refine (Shape.Gathers.idx_of_ne gathers_S1024x128_S512x128 _ j 1 (by decide)).trans ?_
    show (j 1).val = (k1_off2 L) 1 + 1 * (j 1).val
    rw [k1_off2_eq]
    show (j 1).val = 0 + 1 * (j 1).val
    omega

set_option maxHeartbeats 4000000 in
/-- The task's body: it ends with its block of the result at the gathered rows, its buffers and semaphores back. -/
theorem tile_body [FloatOps F] (hF : (K (F := F)).Facts) (hin : InRange ix) (O : CellTallies nD τ sig (HIx 1)) (W : Waits sig (HIx 1)) (hO : ∀ g, O g none = 0) :
    iprop(levAts (K (F := F)).L (K (F := F)).lev ∗ emp
        ∗ taskIn ix tab o0 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather L xV (Memref.isWhole_whole _) iV (Memref.isWhole_whole _) oV (Memref.isWhole_whole _)
            sV (Memref.isWhole_whole _) rV (Memref.isWhole_whole _) cc1_scratch2 cc1_scoped0 cc1_scoped1)
          fun _ => iprop(taskOut ix tab d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_eq_skeleton]; unfold cc1__sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the gather over the fetched list: a share of the table, the row scratch, the list and the cell at zero go in
  ihave Hxs := (pointsTo_split_subset (q := xq (wL L)) (f := tab d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 ix d L) Finset.univ : sProp 𝕄)
      = (sV).view.loc (V d (cV L) (jV L)) ↦[(sV).view.set]{fullShare} View.write (Elt F) (sV).view fs (tile_body.sl.dma0 ix d L) Finset.univ
      by rw [hss])) $$ Hs'
  have hN : ∀ h : S1024x128.Gathers 0 S512x128, ∑ j, ((rV).slice (S512x128.rowRect h.axis' j) (S512x128.stride_rowRect h.axis' j)).view.dmaCredit
      = (rV).view.dmaCredit := by decide +kernel
  iapply (SparseCore.wp_indirectGatherLocal countersEmb 𝒱₀ (V d (cV L) (jV L)) none (hg := gathers_S1024x128_S512x128) (default : HIx 1)
      (rV).view.dmaCredit (hN _) (by decide) (inb_of_range ix d L hin fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hx' := (pointsTo_split_subset (q := xq (wL L)) (f := tab d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    have hout : ∀ i ∈ (oRowK L).view.set, (oRowK L).view.writes (Elt F) (o0 d)
        [⟨Rect.whole S512x128, tile_body.sl.dma0_1 ix tab d L hin fs fr⟩] i = res ix tab d i := by
      rw [← View.write_univ_eq_writes_whole]
      refine out_eq ix tab d L hin fs _ rfl rfl (o0 d) _ ?_
      unfold tile_body.sl.dma0_1
      exact View.read_write_univ _ _
    iapply (Entails.of_eq (pointsTo_congr hout))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1__sc_gather (coordsV c s)
          xV (Memref.isWhole_whole _) iV (Memref.isWhole_whole _) oV (Memref.isWhole_whole _)
          sV (Memref.isWhole_whole _) rV (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [FloatOps F] (hF : (K (F := F)).Facts) (hin : InRange ix) : (K (F := F)).TileObl (D (F := F)) 𝒱 (P ix tab o0) v₀ 0 := by
  intro d c i O W hO _ _
  simp only [show (P ix tab o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ix tab o0 d (coordsV ⟨_, hci.1⟩ ⟨_, hci.2⟩) hF hin O W hO).trans (wp_mono frame _ _ fun _ => obl_post)

end Tile

theorem vecSplit : (K (F := F)).VecSplit' (P ix tab o0) 0 := by
  intro d c
  show (bigSep Finset.univ fun i : Fin 16 => taskIn ix tab o0 d (wid (Fin.cast nCore_zero c) i)) ⊢ |={Set.univ}=> iprop(
      (bigSep Finset.univ fun i : Fin 16 => taskIn ix tab o0 d (wid (Fin.cast nCore_zero c) i))
      ∗ ((bigSep Finset.univ fun i : Fin 16 => taskOut ix tab d (wid (Fin.cast nCore_zero c) i))
          -∗ (bigSep Finset.univ fun i : Fin 16 => taskOut ix tab d (wid (Fin.cast nCore_zero c) i))))
  iintro H; imodintro
  isplitl [H]; · iexact H
  iintro H'; iexact H'

/-! ## The arrays split into the tasks' parts and join -/

theorem iRowSet_eq (i : Fin 32) : iRowSet i = (irow i).set := by
  show ((View.whole (main_v4_scv : Ref sig .scVector)).slice (irow i)).set = _
  rw [View.set_slice]; exact Finset.map_refl
theorem oRowSet_eq (i : Fin 32) : oRowSet i = (orow i).set := by
  show ((View.whole (main_v6_scv : Ref sig .scVector)).slice (orow i)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun i : Fin 32 => iLoc d ↦[iRowSet i]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, orows_cover]; try rfl
theorem xPts_shares (d : Dev nD) (f : Buf (Elt F) (xLoc d)) :
    (xLoc d ↦{fullShare} f : sProp 𝕄) = bigSep Finset.univ fun i : Fin 32 => xLoc d ↦{xq i} f :=
  Idealize.ShloMosaic.pointsTo_piecesOf Finset.univ f (by decide) fullShare

/-- The tasks, by SparseCore and subcore, are the numbers below thirty-two. -/
def widEquiv : Fin 16 × Fin 2 ≃ Fin 32 := finProdFinEquiv

/-- A family over the thirty-two tasks, core by core. -/
theorem bigSep_wid (Φ : Fin 32 → sProp 𝕄) :
    (bigSep Finset.univ fun c : Fin ((K (F := F)).nCore 0) => bigSep Finset.univ fun i : Fin 16 => Φ (wid (Fin.cast nCore_zero c) i))
      = bigSep Finset.univ Φ := by
  rw [bigSep_univ_equiv widEquiv Φ, bigSep_univ_prod]
  refine (show _ = bigSep Finset.univ fun c : Fin 2 => bigSep Finset.univ fun i : Fin 16 => Φ (wid c i) from rfl).trans ?_
  rw [bigSep_univ_comm]
  refine bigSep_congr fun i _ => bigSep_congr fun c _ => congrArg Φ (Fin.ext ?_)
  show 2 * i.val + c.val = c.val + 2 * i.val
  omega

/-- What the call is handed: the three arrays whole. -/
theorem st0_eq (d : Dev nD) : (bigSep Finset.univ fun c : Fin ((K (F := F)).nCore 0) => (P ix tab o0).st 0 d c)
    = iprop(iPts ix d ∗ xPts tab d ∗ oPts d (o0 d)) := by
  refine (bigSep_wid (F := F) (fun w => taskIn ix tab o0 d w)).trans ?_
  rw [bigSep_sep', bigSep_sep']
  unfold iPts xPts oPts
  rw [iPts_rows, xPts_shares, oPts_rows]
/-- What it hands back: the result at the gathered rows. -/
theorem dn0_eq (d : Dev nD) : (bigSep Finset.univ fun c : Fin ((K (F := F)).nCore 0) => (P ix tab o0).dn 0 d c)
    = iprop(iPts ix d ∗ xPts tab d ∗ oPts d (res ix tab d)) := by
  refine (bigSep_wid (F := F) (fun w => taskOut ix tab d w)).trans ?_
  rw [bigSep_sep', bigSep_sep']
  unfold iPts xPts oPts
  rw [iPts_rows, xPts_shares, oPts_rows]

end Protocol

end Cert.Proof.Kern
end
-- ==== Proof.TcBody.lean ====
/-
  The TensorCore call's body at one grid point, in its three cases: the first point (which clears the two accumulators),
  a middle point, the last point (which also stores the loss and the perplexity). Each theorem names everything the body
  leaves as a function of the point's blocks and of the accumulators it found.
-/
module

public import proofs.«01_k».proof.Proof.ScTask
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value
public import Idealize.ShloMosaic.Lib.Pipeline.FrameBody
public import Idealize.ShloMosaic.Lib.WordCmp

@[expose] public section

noncomputable section

namespace Cert.Proof.Kern

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What a point computes -/

/-- The column numbers of a block of distances. -/
abbrev cols : IVec S512x1024 32 := iota .tc S512x1024 32 [1] iota_S512x1024_d1_w32

/-- The block of row numbers a point stores. -/
abbrev idxOut (x0 : Vec F S512x64 .f32) (x1 : Vec F S1024x64 .f32) (x2 : Vec F S1x1024 .f32) : IVec S1x1x512 32 := k0_pay1 (k0_pay8 x0 x1 x2)
/-- The counts after a point that found `a`. -/
abbrev cntOut (x0 : Vec F S512x64 .f32) (x1 : Vec F S1024x64 .f32) (x2 : Vec F S1x1024 .f32) (a : Vec F S1x1024 .f32) : FVec F S1x1024 .f32 :=
  k0_pay3 cols (k0_pay8 x0 x1 x2) a
/-- The summed squared error after a point that found `e`. -/
abbrev sseOut (x0 : Vec F S512x64 .f32) (x1 : Vec F S1024x64 .f32) (x2 : Vec F S1x1024 .f32) (e : F .f32) : F .f32 :=
  k0_pay4 (k0_pay7 x0 x1 x2) e

/-- The sum's start. -/
abbrev sse0 : F .f32 := Scalar.ofBits .f32 0x00000000#32

/-- The condition of the body's first branch. -/
abbrev cond0 (i : grid0.Coords) : Prop := (Scalar.cmpi .ne (Scalar.extui (Scalar.cmpi .eq (BitVec.ofNat 32 (i 0).val) 0#32)) 0#32) = 1#1
/-- It holds at the first point alone. -/
theorem hcond0 (t : Fin cfg0.N) : cond0 (grid0.coords t) ↔ t.val = 0 := by
  have ht : t.val < 32 := Nat.lt_of_lt_of_eq t.isLt N_0
  have e0 : (grid0.coords t 0).val = t.val / 1 % 32 := Pipeline.Grid.coords_val t 0 (by decide) rfl
  have h : cond0 (grid0.coords t) ↔ t.val % 32 = 0 := by
    simp only [cond0, e0]
    word_cmp
  rw [h]; omega
/-- The condition of its second branch. -/
abbrev cond1 (i : grid0.Coords) : Prop := k0_cond2 i = 1#1
/-- It holds at the last point alone. -/
theorem hcond1 (t : Fin cfg0.N) : cond1 (grid0.coords t) ↔ t.val = 31 := by
  have ht : t.val < 32 := Nat.lt_of_lt_of_eq t.isLt N_0
  have e0 : (grid0.coords t 0).val = t.val / 1 % 32 := Pipeline.Grid.coords_val t 0 (by decide) rfl
  have h : cond1 (grid0.coords t) ↔ t.val % 32 = 31 := by
    simp only [cond1, k0_cond2, e0]
    word_cmp
  rw [h]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- A memref whose last store covered it reads that store's payload. -/
theorem read_cons_zero {κ : Kind} {sp : Space} {S : Shape} {ty : EltTy} (v : View sig κ sp S ty) (f : v.ty.Contents (Elt F)) {off : Fin S.rank → Nat}
    (h : off = fun _ => 0) (inb : ∀ a, off a + S.size a ≤ S.size a) (w : S.Idx → Elt F ty) (L : List (View.Piece (Elt F) S ty)) :
    v.read (Elt F) (v.writes (Elt F) f (⟨Rect.unit off S.size inb, w⟩ :: L)) = w := by
  rw [View.read_writes_eq_canon _ _ _ (fun y => ⟨_, List.mem_cons_self, by
    subst h; show y ∈ (Rect.whole S).set; rw [Rect.set_whole]; exact Finset.mem_univ y⟩), View.canon_cons_unit_zero h]

/-! ## The body's three runs -/

variable (c : Dev nD) (i : grid0.Coords)
  (arg1 : Memref sig .tc .vmem S512x64 .f32) (harg1 : arg1.IsWhole) (arg2 : Memref sig .tc .vmem S1024x64 .f32) (harg2 : arg2.IsWhole)
  (arg3 : Memref sig .tc .vmem S1x1024 .f32) (harg3 : arg3.IsWhole) (arg4 : Memref sig .tc .vmem S1x1x512 .i32) (harg4 : arg4.IsWhole)
  (arg5 : Memref sig .tc .vmem S1x1 .f32) (harg5 : arg5.IsWhole) (arg6 : Memref sig .tc .vmem S1x1 .f32) (harg6 : arg6.IsWhole)
  (arg7 : Memref sig .tc .vmem S1x1024 .f32) (harg7 : arg7.IsWhole) (arg8 : Memref sig .tc .smem S1x1 .f32) (harg8 : arg8.IsWhole)
  (x0 : Vec F S512x64 .f32) (x1 : Vec F S1024x64 .f32) (x2 : Vec F S1x1024 .f32)

set_option maxHeartbeats 4000000 in
/-- The first point: the accumulators may hold anything. -/
theorem runA (hc0 : cond0 i) (hc1 : ¬cond1 i) (d4 d5 : Vec F S1x1 .f32) (E : Set ℕ) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare d4 ∗ owns (c : Thread nD τ) arg6 fullShare d5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (idxOut x0 x1 x2) ∗ owns (c : Thread nD τ) arg5 fullShare d4 ∗ owns (c : Thread nD τ) arg6 fullShare d5
            ∗ owns (c : Thread nD τ) arg7 fullShare (cntOut x0 x1 x2 k0_pay2) ∗ owns (c : Thread nD τ) arg8 fullShare (fun _ => sseOut x0 x1 x2 sse0)) -∗ Q ⟨⟩))
      ⊢ wp frame (wpE (defs₀ (F := F)) Variants.none c none) E (cc0__tc_body i arg1 harg1 arg2 harg2 arg3 harg3 arg4 harg4 arg5 harg5 arg6 harg6 arg7 harg7 arg8 harg8) Q := by
  simp only [cc0__tc_body_eq_skeleton]; unfold cc0__tc_body_skel
  simp only [k0_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    try sl_unfold_words
    refine (read_cons_zero _ _ hz3 _ _ _).trans ?_
    try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  isplitl [H4]
  · iexists _; isplitr; swap; · iexact H4
    ipureintro; exact hf4
  isplitl [H5]
  · iexists _; isplitr; swap; · iexact H5
    ipureintro; exact hf5
  isplitl [HS0]
  · iexists _; isplitr; swap; · iexact HS0
    ipureintro
    try sl_unfold_words
    refine (read_cons_zero _ _ hz2 _ _ _).trans ?_
    try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  iexists _; isplitr; swap; · iexact HS1
  ipureintro
  try sl_unfold_words
  refine (read_cons_zero _ _ hz2 _ _ _).trans ?_
  try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  rfl

set_option maxHeartbeats 4000000 in
/-- A middle point. -/
theorem runB (hc0 : ¬cond0 i) (hc1 : ¬cond1 i) (a : Vec F S1x1024 .f32) (e : F .f32) (d4 d5 : Vec F S1x1 .f32) (E : Set ℕ) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare d4 ∗ owns (c : Thread nD τ) arg6 fullShare d5 ∗ owns (c : Thread nD τ) arg7 fullShare a ∗ owns (c : Thread nD τ) arg8 fullShare (fun _ => e)
        ∗ (iprop(owns (c : Thread nD τ) arg1 fullShare x0 ∗ owns (c : Thread nD τ) arg2 fullShare x1 ∗ owns (c : Thread nD τ) arg3 fullShare x2
            ∗ owns (c : Thread nD τ) arg4 fullShare (idxOut x0 x1 x2) ∗ owns (c : Thread nD τ) arg5 fullShare d4 ∗ owns (c : Thread nD τ) arg6 fullShare d5
            ∗ owns (c : Thread nD τ) arg7 fullShare (cntOut x0 x1 x2 a) ∗ owns (c : Thread nD τ) arg8 fullShare (fun _ => sseOut x0 x1 x2 e)) -∗ Q ⟨⟩))
      ⊢ wp frame (wpE (defs₀ (F := F)) Variants.none c none) E (cc0__tc_body i arg1 harg1 arg2 harg2 arg3 harg3 arg4 harg4 arg5 harg5 arg6 harg6 arg7 harg7 arg8 harg8) Q := by
  simp only [cc0__tc_body_eq_skeleton]; unfold cc0__tc_body_skel
  simp only [k0_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hs0, HS0⟩, ⟨%fs1, %hs1, HS1⟩, Hk⟩
  obtain rfl := harg1.eq_unread hf0; obtain rfl := harg2.eq_unread hf1; obtain rfl := harg3.eq_unread hf2
  obtain rfl := harg7.eq_unread hs0; obtain rfl := harg8.eq_unread hs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    try sl_unfold_words
    refine (read_cons_zero _ _ hz3 _ _ _).trans ?_
    try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  isplitl [H4]
  · iexists _; isplitr; swap; · iexact H4
    ipureintro; exact hf4
  isplitl [H5]
  · iexists _; isplitr; swap; · iexact H5
    ipureintro; exact hf5
  isplitl [HS0]
  · iexists _; isplitr; swap; · iexact HS0
    ipureintro
    try sl_unfold_words
    refine (read_cons_zero _ _ hz2 _ _ _).trans ?_
    try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  iexists _; isplitr; swap; · iexact HS1
  ipureintro
  try sl_unfold_words
  refine (read_cons_zero _ _ hz2 _ _ _).trans ?_
  try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  rfl

set_option maxHeartbeats 4000000 in
/-- The last point. -/
theorem runC (hc0 : ¬cond0 i) (hc1 : cond1 i) (a : Vec F S1x1024 .f32) (e : F .f32) (E : Set ℕ) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d) ∗ owns (c : Thread nD τ) arg7 fullShare a ∗ owns (c : Thread nD τ) arg8 fullShare (fun _ => e)
        ∗ (iprop(owns (c : Thread nD τ) arg1 fullShare x0 ∗ owns (c : Thread nD τ) arg2 fullShare x1 ∗ owns (c : Thread nD τ) arg3 fullShare x2
            ∗ owns (c : Thread nD τ) arg4 fullShare (idxOut x0 x1 x2) ∗ owns (c : Thread nD τ) arg5 fullShare (k0_pay5 (sseOut x0 x1 x2 e)) ∗ owns (c : Thread nD τ) arg6 fullShare (k0_pay6 (cntOut x0 x1 x2 a))
            ∗ owns (c : Thread nD τ) arg7 fullShare (cntOut x0 x1 x2 a) ∗ owns (c : Thread nD τ) arg8 fullShare (fun _ => sseOut x0 x1 x2 e)) -∗ Q ⟨⟩))
      ⊢ wp frame (wpE (defs₀ (F := F)) Variants.none c none) E (cc0__tc_body i arg1 harg1 arg2 harg2 arg3 harg3 arg4 harg4 arg5 harg5 arg6 harg6 arg7 harg7 arg8 harg8) Q := by
  simp only [cc0__tc_body_eq_skeleton]; unfold cc0__tc_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hs0, HS0⟩, ⟨%fs1, %hs1, HS1⟩, Hk⟩
  obtain rfl := harg1.eq_unread hf0; obtain rfl := harg2.eq_unread hf1; obtain rfl := harg3.eq_unread hf2
  obtain rfl := harg7.eq_unread hs0; obtain rfl := harg8.eq_unread hs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    try sl_unfold_words
    refine (read_cons_zero _ _ hz3 _ _ _).trans ?_
    try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  isplitl [H4]
  · iexists _; isplitr; swap; · iexact H4
    ipureintro
    try sl_unfold_words
    refine (read_cons_zero _ _ hz2 _ _ _).trans ?_
    try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  isplitl [H5]
  · iexists _; isplitr; swap; · iexact H5
    ipureintro
    try sl_unfold_words
    refine (read_cons_zero _ _ hz2 _ _ _).trans ?_
    try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  isplitl [HS0]
  · iexists _; isplitr; swap; · iexact HS0
    ipureintro
    try sl_unfold_words
    refine (read_cons_zero _ _ hz2 _ _ _).trans ?_
    try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  iexists _; isplitr; swap; · iexact HS1
  ipureintro
  try sl_unfold_words
  refine (read_cons_zero _ _ hz2 _ _ _).trans ?_
  try simp only [View.readAt_eq_ld, harg1.read_unread, harg2.read_unread, harg3.read_unread, harg7.read_unread, harg8.read_unread, View.ld_unit_zero (S := S512x64) hz2, View.ld_unit_zero (S := S1024x64) hz2, View.ld_unit_zero (S := S1x1024) hz2, View.ld_unit_zero (S := S1x1) hz2, View.readCov_unit_zero (S := S1x1024) _ hz2, View.readCov_unit_zero (S := S1x1) _ hz2]
  rfl

end Cert.Proof.Kern

end
-- ==== Proof.TcRegion.lean ====
/-
  The TensorCore call as a region of @main, entered from any contents of the program's arrays: its blocks, what each
  point leaves (`accAt`: the counts and the summed squared error after each point), the body's obligation, and the
  region. While it runs the TensorCore still owes the start of the SparseCore call.
-/
module

public import proofs.«01_k».proof.Proof.TcBody

@[expose] public section

noncomputable section

namespace Cert.Proof.Kern

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- Window `w`'s block at point `t` of the arrays at `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The counts and the summed squared error after each point. -/
def accAt (c : Dev nD) : (n : ℕ) → n < cfg0.N → FVec F S1x1024 .f32 × F .f32
  | 0, h => (cntOut (iblk V c 0 ⟨0, h⟩) (iblk V c 1 ⟨0, h⟩) (iblk V c 2 ⟨0, h⟩) k0_pay2, sseOut (iblk V c 0 ⟨0, h⟩) (iblk V c 1 ⟨0, h⟩) (iblk V c 2 ⟨0, h⟩) sse0)
  | n + 1, h => (cntOut (iblk V c 0 ⟨n + 1, h⟩) (iblk V c 1 ⟨n + 1, h⟩) (iblk V c 2 ⟨n + 1, h⟩) (accAt c n (Nat.lt_of_succ_lt h)).1,
      sseOut (iblk V c 0 ⟨n + 1, h⟩) (iblk V c 1 ⟨n + 1, h⟩) (iblk V c 2 ⟨n + 1, h⟩) (accAt c n (Nat.lt_of_succ_lt h)).2)

theorem accAt_first (c : Dev nD) (t : Fin cfg0.N) (h : t.val = 0) :
    accAt V c t.val t.isLt = (cntOut (iblk V c 0 t) (iblk V c 1 t) (iblk V c 2 t) k0_pay2, sseOut (iblk V c 0 t) (iblk V c 1 t) (iblk V c 2 t) sse0) := by
  obtain ⟨n, hn⟩ := t
  cases n with
  | zero => rfl
  | succ n => exact absurd h (Nat.succ_ne_zero n)

theorem accAt_next (c : Dev nD) (t : Fin cfg0.N) (h : t.val ≠ 0) :
    accAt V c t.val t.isLt = (cntOut (iblk V c 0 t) (iblk V c 1 t) (iblk V c 2 t) (accAt V c (t.val - 1) (by omega)).1,
      sseOut (iblk V c 0 t) (iblk V c 1 t) (iblk V c 2 t) (accAt V c (t.val - 1) (by omega)).2) := by
  obtain ⟨n, hn⟩ := t
  cases n with
  | zero => exact absurd rfl h
  | succ n => rfl

/-- The two scratch buffers, whole. -/
abbrev scM0 : Memref sig .tc .vmem S1x1024 .f32 := Memref.whole cc0_scratch0
abbrev scM1 : Memref sig .tc .smem S1x1 .f32 := Memref.whole cc0_scratch1

/-- The invariant before position `n`: the scratch buffers at anything before the first point, then at the accumulated
    counts and error. -/
def PhiS (c : Dev nD) : (n : ℕ) → n ≤ cfg0.N → sProp 𝕄
  | 0, _ => Pipeline.scopedRest (Ix := HIx 1) (Name := ℕ) (U := UU) (Lvl := ℕ) (Val := Elt F) spec0 c
  | n + 1, hn => iprop(owns (c : Thread nD τ) scM0 fullShare (accAt V c n hn).1 ∗ owns (c : Thread nD τ) scM1 fullShare (fun _ => (accAt V c n hn).2))

theorem PhiS_zero (c : Dev nD) (n : ℕ) (h : n ≤ cfg0.N) (hz : n = 0) :
    PhiS V c n h = iprop((∃ d, owns (c : Thread nD τ) scM0 fullShare d) ∗ (∃ d, owns (c : Thread nD τ) scM1 fullShare d)) := by
  subst hz
  show Pipeline.scopedRest (Ix := HIx 1) (Name := ℕ) (U := UU) (Lvl := ℕ) (Val := Elt F) spec0 c = _
  rw [scopedRest0_eq]; simp only [scM0, scM1, owns_whole]; try rfl

theorem PhiS_succ (c : Dev nD) (n : ℕ) (hn : n < cfg0.N) :
    PhiS V c (n + 1) hn = iprop(owns (c : Thread nD τ) scM0 fullShare (accAt V c n hn).1 ∗ owns (c : Thread nD τ) scM1 fullShare (fun _ => (accAt V c n hn).2)) := rfl

theorem PhiS_pos (c : Dev nD) (n : ℕ) (h : n ≤ cfg0.N) (hz : n ≠ 0) :
    PhiS V c n h = iprop(owns (c : Thread nD τ) scM0 fullShare (accAt V c (n - 1) (by omega)).1 ∗ owns (c : Thread nD τ) scM1 fullShare (fun _ => (accAt V c (n - 1) (by omega)).2)) := by
  cases n with
  | zero => exact absurd rfl hz
  | succ n => rfl

/-- The pairs the TensorCore may have recorded before the SparseCore call: the ones at level zero. -/
def rec0 (c : Dev nD) : Set (SemLoc sig × HIx 1) := {p | (K (F := F)).lev ((c : Thread nD τ), p.1) p.2 ≤ 0}

/-- The call's proof data: the arrays at `V`; after each point the inputs' blocks, the row numbers, the loss and the
    perplexity of the accumulated error and counts; the start of the SparseCore call still owed. -/
def dat (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => idxOut (iblk V c 0 t) (iblk V c 1 t) (iblk V c 2 t)
    | ⟨4, _⟩ => k0_pay5 (accAt V c t.val t.isLt).2
    | ⟨5, _⟩ => k0_pay6 (accAt V c t.val t.isLt).1
  Φ t := PhiS V c t.val (Nat.le_of_lt_succ t.isLt)
  q _ := fullShare
  owed _ := (K (F := F)).Otc c 0
  recorded _ := rec0 (F := F) c

theorem A_eq (c : Dev nD) (w : Fin cfg0.W) : (dat V c).A w = V c (Pipeline.arrRef spec0 w) := by dsimp only [dat]

theorem PhiS_castSucc (c : Dev nD) (t : Fin cfg0.N) : (dat V c).Φ t.castSucc = PhiS V c t.val (Nat.le_of_lt t.isLt) := by
  dsimp only [dat]; exact Pipeline.Dat.Φ_castSucc (PhiS V c) t

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = idxOut (iblk V c 0 t) (iblk V c 1 t) (iblk V c 2 t) := by dsimp only [dat]
theorem after_4 (c : Dev nD) (t : Fin cfg0.N) : (dat V c).after 4 t = k0_pay5 (accAt V c t.val t.isLt).2 := by dsimp only [dat]
theorem after_5 (c : Dev nD) (t : Fin cfg0.N) : (dat V c).after 5 t = k0_pay6 (accAt V c t.val t.isLt).1 := by dsimp only [dat]

theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

abbrev ms0_0 (t : Fin cfg0.N) : Memref sig .tc .vmem S512x64 .f32 := win0_0.stage (cfg0.slots t 0)
abbrev ms0_1 (t : Fin cfg0.N) : Memref sig .tc .vmem S1024x64 .f32 := win0_1.stage (cfg0.slots t 1)
abbrev ms0_2 (t : Fin cfg0.N) : Memref sig .tc .vmem S1x1024 .f32 := win0_2.stage (cfg0.slots t 2)
abbrev ms0_3 (t : Fin cfg0.N) : Memref sig .tc .vmem S1x1x512 .i32 := win0_3.stage (cfg0.slots t 3)
abbrev ms0_4 (t : Fin cfg0.N) : Memref sig .tc .vmem S1x1 .f32 := win0_4.stage (cfg0.slots t 4)
abbrev ms0_5 (t : Fin cfg0.N) : Memref sig .tc .vmem S1x1 .f32 := win0_5.stage (cfg0.slots t 5)

/-- What the body is called with at point `t`, window by window, -/
def bodyPre (c : Dev nD) (t : Fin cfg0.N) : sProp 𝕄 :=
  iprop((dat V c).Φ t.castSucc ∗ (dat V c).owesAt none t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg0.N) : sProp 𝕄 :=
  iprop((dat V c).Φ t.succ ∗ (dat V c).owesAt none t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem live_0 (c : Dev nD) (t : Fin cfg0.N) : (dat V c).leavesExact 0 t = owns (c : Thread nD τ) (ms0_0 t) fullShare (iblk V c 0 t) := by
  rw [← after_0]
theorem live_1 (c : Dev nD) (t : Fin cfg0.N) : (dat V c).leavesExact 1 t = owns (c : Thread nD τ) (ms0_1 t) fullShare (iblk V c 1 t) := by
  rw [← after_1]
theorem live_2 (c : Dev nD) (t : Fin cfg0.N) : (dat V c).leavesExact 2 t = owns (c : Thread nD τ) (ms0_2 t) fullShare (iblk V c 2 t) := by
  rw [← after_2]
theorem live_3 (c : Dev nD) (t : Fin cfg0.N) :
    (dat V c).leavesExact 3 t = owns (c : Thread nD τ) (ms0_3 t) fullShare (idxOut (iblk V c 0 t) (iblk V c 1 t) (iblk V c 2 t)) := by
  rw [← after_3]

theorem idle_45 (t : Fin cfg0.N) (h : t.val ≠ 31) : cfg0.idle 4 (cfg0.grid.coords t) = true ∧ cfg0.idle 5 (cfg0.grid.coords t) = true := by
  have h1 : ¬ k0_cond2 (grid0.coords t) = 1#1 := fun e => h ((hcond1 t).mp e)
  have h2 : (!(k0_cond2 (grid0.coords t) == 1#1)) = true := by rw [beq_false_of_ne h1]; rfl
  exact ⟨h2, h2⟩
theorem live_45 (t : Fin cfg0.N) (h : t.val = 31) : cfg0.idle 4 (cfg0.grid.coords t) = false ∧ cfg0.idle 5 (cfg0.grid.coords t) = false := by
  have h1 : k0_cond2 (grid0.coords t) = 1#1 := (hcond1 t).mpr h
  have h2 : (!(k0_cond2 (grid0.coords t) == 1#1)) = false := by rw [h1]; rfl
  exact ⟨h2, h2⟩
theorem noflush_4 (t : Fin cfg0.N) (h : t.val ≠ 31) : (cfg0.win 4).flush t = false := by
  have hN : t.val < 32 := lt_of_lt_of_eq t.isLt (show cfg0.N = 32 from N_0)
  rw [← Bool.not_eq_true, flush0_4]; omega
theorem noflush_5 (t : Fin cfg0.N) (h : t.val ≠ 31) : (cfg0.win 5).flush t = false := by
  have hN : t.val < 32 := lt_of_lt_of_eq t.isLt (show cfg0.N = 32 from N_0)
  rw [← Bool.not_eq_true, flush0_5]; omega

theorem left_4 (c : Dev nD) (t : Fin cfg0.N) (h : t.val ≠ 31) :
    (dat V c).leavesExact 4 t = iprop(∃ d, owns (c : Thread nD τ) (ms0_4 t) fullShare ((dat V c).before 4 t d)) :=
  (dat V c).leavesExact_idle 4 t (idle_45 t h).1 (noflush_4 t h)
theorem left_5 (c : Dev nD) (t : Fin cfg0.N) (h : t.val ≠ 31) :
    (dat V c).leavesExact 5 t = iprop(∃ d, owns (c : Thread nD τ) (ms0_5 t) fullShare ((dat V c).before 5 t d)) :=
  (dat V c).leavesExact_idle 5 t (idle_45 t h).2 (noflush_5 t h)
theorem last_4 (c : Dev nD) (t : Fin cfg0.N) (h : t.val = 31) :
    (dat V c).leavesExact 4 t = owns (c : Thread nD τ) (ms0_4 t) fullShare (k0_pay5 (accAt V c t.val t.isLt).2) := by
  rw [← after_4]; unfold Dat.leavesExact
  rw [show cfg0.idle 4 (cfg0.grid.coords t) = false from (live_45 t h).1]
theorem last_5 (c : Dev nD) (t : Fin cfg0.N) (h : t.val = 31) :
    (dat V c).leavesExact 5 t = owns (c : Thread nD τ) (ms0_5 t) fullShare (k0_pay6 (accAt V c t.val t.isLt).1) := by
  rw [← after_5]; unfold Dat.leavesExact
  rw [show cfg0.idle 5 (cfg0.grid.coords t) = false from (live_45 t h).2]

set_option maxHeartbeats 4000000 in
/-- The body at any point: its run, by whether the point is the first, the last or neither. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt none t.succ = (dat V c).owesAt none t.castSucc from rfl]
  rw [show (dat V c).Φ t.succ = PhiS V c (t.val + 1) t.isLt from rfl, PhiS_succ, live_0, live_1, live_2, live_3]
  have hN : t.val < 32 := lt_of_lt_of_eq t.isLt (show cfg0.N = 32 from N_0)
  by_cases hz : t.val = 0
  · have hl : t.val ≠ 31 := by omega
    rw [PhiS_castSucc V c t, PhiS_zero V c _ _ hz, left_4 V c t hl, left_5 V c t hl, accAt_first V c t hz]
    dsimp only
    iintro ⟨⟨HS0, HS1⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ (iblk V c 0 t) (iblk V c 1 t) (iblk V c 2 t) ((hcond0 t).mpr hz) (fun h => hl ((hcond1 t).mp h)) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexists d4; iexact H4
    iexists d5; iexact H5
  · by_cases hl : t.val = 31
    · rw [PhiS_castSucc V c t, PhiS_pos V c _ _ hz, last_4 V c t hl, last_5 V c t hl, accAt_next V c t hz]
      dsimp only
      iintro ⟨⟨HS0, HS1⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ (iblk V c 0 t) (iblk V c 1 t) (iblk V c 2 t) (fun h => hz ((hcond0 t).mp h)) ((hcond1 t).mpr hl) _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz, left_4 V c t hl, left_5 V c t hl, accAt_next V c t hz]
      dsimp only
      iintro ⟨⟨HS0, HS1⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ (iblk V c 0 t) (iblk V c 1 t) (iblk V c 2 t) (fun h => hz ((hcond0 t).mp h)) (fun h => hl ((hcond1 t).mp h)) _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexists d4; iexact H4
      iexists d5; iexact H5

/-- The body table's row at point `t`'s slots is the body as `bodyAt0` spells it. -/
theorem defs₀_row (t : Fin cfg0.N) : defs₀ (F := F) .tc cfg0.body (cfg0.bodyArgs t (cfg0.slots t)) = bodyAt0 t := by
  rfl

/-- The library's body obligation, at every point. -/
theorem body_obligation (c : Dev nD) : BodyObligation (dat V c) (defs₀ (F := F)) Variants.none none Set.univ := fun t => by
  rw [bigSep_W0, bigSep_W0, defs₀_row]
  exact triple_restated (sound_body V c t) rfl .rfl fun _ => .rfl

/-- After the last point the scratch buffers are given back at something. -/
theorem PhiS_out (c : Dev nD) : PhiS V c 32 (Nat.le_of_eq N_0.symm) ⊢ Pipeline.scopedRest (Ix := HIx 1) (Name := ℕ) (U := UU) (Lvl := ℕ) (Val := Elt F) spec0 c := by
  rw [PhiS_pos V c 32 _ (by decide)]
  refine BIBase.Entails.trans ?_ (Entails.of_eq (PhiS_zero V c 0 (Nat.zero_le _) rfl).symm)
  iintro ⟨H0, H1⟩
  isplitl [H0]
  · iexists _; iexact H0
  iexists _; iexact H1

/-- The proof data of the program's pipelines: its one. -/
def pdats : (p : Fin 1) → (c : Dev nD) → Dat τ (Elt F) (HIx 1) ℕ UU ℕ (Pipeline.pin (pcfgs (F := F)) (fun p => (cfgs p).toPCfg_adm) p) c
  | ⟨0, _⟩ => fun c => dat V c

/-! ## The region -/

theorem Otc_none (c : Dev nD) (g : GSem nD τ sig) : (K (F := F)).Otc c 0 g none = 0 := by
  by_contra h
  have := (K (F := F)).lev_of_Otc_pos (Nat.pos_of_ne_zero h)
  rw [SparseCore.Cfg.lev_none] at this
  omega

theorem bound_sub (c : Dev nD) (t : Fin (cfg0.N + 1)) : (dat V c).bound none t ⊆ rec0 (F := F) c := by
  rintro p (h | ⟨w, s, rfl⟩)
  · exact h
  · exact Nat.le_refl 0

/-- What the TensorCore holds of the handshakes' accounts while the region runs. -/
abbrev owes0 (c : Dev nD) : sProp 𝕄 := Pipeline.owesWithin c ((K (F := F)).Otc c 0) (rec0 (F := F) c)

variable (Vp : (c : Dev nD) → (b : Ref sig .tc) → Buf (Elt F) ((c : Thread nD τ).loc b))

set_option backward.isDefEq.respectTransparency.types false in
/-- The region: entered from every unscoped array at `V` and the TensorCore's accounts, left with the three result
    arrays at what the write-backs left, every other as it was. -/
def reg (h3 : ∀ c, Vp c main_v3_0 = (dat V c).arrAt 3 cfg0.N) (h4 : ∀ c, Vp c main_v3_1 = (dat V c).arrAt 4 cfg0.N)
    (h5 : ∀ c, Vp c main_v3_2 = (dat V c).arrAt 5 cfg0.N)
    (hne : ∀ c (b : Ref sig .tc), b ≠ main_v3_0 → b ≠ main_v3_1 → b ≠ main_v3_2 → Vp c b = V c b) :
    Pipeline.RegionSeg (pcfgs (F := F)) (fun p => (cfgs p).toPCfg_adm) (pdats V) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c)
  pre c := iprop(unscopedBufs c (V c) ∗ owes0 c)
  post c := iprop(unscopedBufs c (Vp c) ∗ owes0 c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) (fun p => (cfgs p).toPCfg_adm) (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c ((K (F := F)).Otc c 0) (Set.subset_union_left : rec0 (F := F) c ⊆ (pdats V 0 c).bound none 0))
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none]
    refine BIBase.Entails.trans (PhiS_out V c) ?_
    iintro Hr
    isplitr; · iempintro
    isplitr; · iempintro
    iexact Hr
  hexit c := by
    have hjoin := Pipeline.unscopedBufs_of_arrays (p := 0) (pcfgs (F := F)) (fun p => (cfgs p).toPCfg_adm) (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => by
        fin_cases w
        · exact ((pdats V 0 c).arrAt_in 0 rfl _).trans (hne c main_arg0 (by decide) (by decide) (by decide)).symm
        · exact ((pdats V 0 c).arrAt_in 1 rfl _).trans (hne c main_arg1 (by decide) (by decide) (by decide)).symm
        · exact ((pdats V 0 c).arrAt_in 2 rfl _).trans (hne c main_v2 (by decide) (by decide) (by decide)).symm
        · exact (h3 c).symm
        · exact (h4 c).symm
        · exact (h5 c).symm)
      (fun b hb => hne c b (fun h => hb (h ▸ Finset.mem_image.mpr ⟨3, Finset.mem_univ _, rfl⟩))
        (fun h => hb (h ▸ Finset.mem_image.mpr ⟨4, Finset.mem_univ _, rfl⟩)) (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    iapply (Pipeline.owesWithin_mono c ((K (F := F)).Otc c 0) (bound_sub V c (Fin.last _)))
    iexact HO

end Cert.Proof.Kern

end
-- ==== Proof.Main.lean ====
/-
  The program's run: @main's host operations, the TensorCore call, the SparseCore call and the host operations after
  it, with every array's contents named along the way (`W0` … `W5`). The one hypothesis is that the row numbers the
  TensorCore call returns name rows of the table (`RowsOk`).
-/
module

public import proofs.«01_k».proof.Proof.TcRegion

@[expose] public section

noncomputable section

namespace Cert.Proof.Kern

open Cert.KernelIdeal Cert.KernelIdeal.Gen

open Idealize.ShloMosaic
open Idealize.ShloMosaic.TcCoe Idealize.ShloMosaic.Tactic
open Idealize.ShloMosaic.StableHlo (seq after held tcRefs)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host operations -/

/-- The host operations before the TensorCore call: the codebook's squared row norms. -/
def ops1 : List (HloOp τ sig (Elt F)) :=
  [StableHlo.binary main_arg1 main_arg1 main_v0 (mulf : (⟨S1024x64, .f32⟩ : BufTy).Contents (Elt F) → (⟨S1024x64, .f32⟩ : BufTy).Contents (Elt F) → (⟨S1024x64, .f32⟩ : BufTy).Contents (Elt F)),
   StableHlo.nullary main_cst (constant S_ .f32 0x00000000#32),
   StableHlo.binary main_v0 main_cst main_v1 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
   StableHlo.reshape main_v1 main_v2 (rfl : (.f32 : EltTy) = .f32) shapeCasts_S1024_S1x1024]

/-- Those between the two calls: the row numbers as one list, the codebook padded to 128 columns. -/
def ops2 : List (HloOp τ sig (Elt F)) :=
  [StableHlo.reshape main_v3_0 main_v4 (rfl : (.i32 : EltTy) = .i32) shapeCasts_S32x1x512_S16384,
   StableHlo.nullary main_c (constantI S_ 32 0#32),
   StableHlo.TRef.unary (.of main_c) (.of main_call0_v0) (sitofp .f32),
   StableHlo.TRef.binary (.of main_arg1) (.of main_call0_v0) (.of main_v5)
     (fun (x : (⟨S1024x64, .f32⟩ : BufTy).Contents (Elt F)) (v : (⟨S_, .f32⟩ : BufTy).Contents (Elt F)) =>
       pad S1024x128 ![0, 0] ![0, 64] ![0, 0] x v pads_S1024x64_S1024x128_000_0640 h_S_)]

/-- Those after the SparseCore call: the results. -/
def ops3 : List (HloOp τ sig (Elt F)) :=
  [StableHlo.unary main_v6 main_v7 ((extractStridedSlice S16384x64 ![0, 0] · slices_S16384x128_S16384x64_0_0) : (⟨S16384x128, .f32⟩ : BufTy).Contents (Elt F) → (⟨S16384x64, .f32⟩ : BufTy).Contents (Elt F)),
   StableHlo.reshape main_v3_1 main_v8 (rfl : (.f32 : EltTy) = .f32) shapeCasts_S1x1_S_,
   StableHlo.reshape main_v3_2 main_v9 (rfl : (.f32 : EltTy) = .f32) shapeCasts_S1x1_S_]

theorem main_eq (d : Dev nD) : main (F := F) d = (seq ops1 >>= fun _ =>
    (SparseCore.liftProg (nD := nD) (τ := τ) (sig := sig) (Val := Elt F) (Λ := ΛP (F := F)) (Q := 1) (pr := .tc) (α := PUnit)
        (.op (.customCall (Pipeline.entry 0) ()) fun _ => .ret PUnit.unit) >>= fun _ =>
      (seq ops2 >>= fun _ => ((sc (F := F)).run d 0 >>= fun _ => (seq ops3 >>= fun _ => pure ⟨⟩))))) := rfl

/-! ## The arrays' contents along @main -/

section Contents

variable (m : (ℓ : Loc nD τ sig) → Buf (Elt F) ℓ) (ρ : Dev nD → PrngReg)

/-- At launch. -/
def W0 (d : Dev nD) : Valuation τ sig (Elt F) := fun b => m (d, b)
/-- When the TensorCore call is entered. -/
def W1 (d : Dev nD) : Valuation τ sig (Elt F) := after ops1 (W0 m d)
/-- The same, read by the TensorCore's references. -/
def V1 (c : Dev nD) (b : Ref sig .tc) : Buf (Elt F) ((c : Thread nD τ).loc b) := W1 m c (Proc.devRef .tc b)
/-- When it returns: its three results written. -/
def W2 (d : Dev nD) : Valuation τ sig (Elt F) :=
  Function.update (Function.update (Function.update (W1 m d) (Proc.devRef .tc main_v3_0) ((dat (V1 m) d).arrAt 3 cfg0.N))
    (Proc.devRef .tc main_v3_1) ((dat (V1 m) d).arrAt 4 cfg0.N)) (Proc.devRef .tc main_v3_2) ((dat (V1 m) d).arrAt 5 cfg0.N)
def V2 (c : Dev nD) (b : Ref sig .tc) : Buf (Elt F) ((c : Thread nD τ).loc b) := W2 m c (Proc.devRef .tc b)
/-- When the SparseCore call is started. -/
def W3 (d : Dev nD) : Valuation τ sig (Elt F) := after ops2 (W2 m d)
/-- The row numbers, the padded table and the output array at that moment. -/
def ixA (d : Dev nD) : Buf (Elt F) (iLoc d) := W3 m d (Proc.devRef .tc main_v4)
def tabA (d : Dev nD) : Buf (Elt F) (xLoc d) := W3 m d (Proc.devRef .tc main_v5)
def oA (d : Dev nD) : Buf (Elt F) (oLoc d) := W3 m d (Proc.devRef .tc main_v6)
/-- When the SparseCore call is over: the gathered rows written. -/
def W4 (d : Dev nD) : Valuation τ sig (Elt F) := Function.update (W3 m d) (Proc.devRef .tc main_v6) (res (ixA m) (tabA m) d)
/-- At the end. -/
def W5 (d : Dev nD) : Valuation τ sig (Elt F) := after ops3 (W4 m d)

/-- Every row number names a row of the table. -/
def RowsOk : Prop := InRange (ixA m)

theorem V2_0 (c : Dev nD) : V2 m c main_v3_0 = (dat (V1 m) c).arrAt 3 cfg0.N := by
  unfold V2 W2
  rw [Function.update_of_ne (fun h => absurd (Proc.devRef_injective _ h) (by decide)), Function.update_of_ne (fun h => absurd (Proc.devRef_injective _ h) (by decide)),
    Function.update_self]
theorem V2_1 (c : Dev nD) : V2 m c main_v3_1 = (dat (V1 m) c).arrAt 4 cfg0.N := by
  unfold V2 W2
  rw [Function.update_of_ne (fun h => absurd (Proc.devRef_injective _ h) (by decide)), Function.update_self]
theorem V2_2 (c : Dev nD) : V2 m c main_v3_2 = (dat (V1 m) c).arrAt 5 cfg0.N := by
  unfold V2 W2
  rw [Function.update_self]
theorem V2_ne (c : Dev nD) (b : Ref sig .tc) (h0 : b ≠ main_v3_0) (h1 : b ≠ main_v3_1) (h2 : b ≠ main_v3_2) : V2 m c b = V1 m c b := by
  unfold V2 V1 W2
  rw [Function.update_of_ne (fun h => h2 (Proc.devRef_injective _ h)), Function.update_of_ne (fun h => h1 (Proc.devRef_injective _ h)),
    Function.update_of_ne (fun h => h0 (Proc.devRef_injective _ h))]

/-! ## The unscoped arrays as one set -/

/-- The TensorCore's unscoped arrays. -/
def ucRefs : Finset (DevRef τ sig) := (tcRefs τ sig).filter fun b => ¬ b.isScoped

theorem unscopedBufs_held (d : Dev nD) (W : Valuation τ sig (Elt F)) :
    (unscopedBufs d (fun b => W (Proc.devRef .tc b)) : sProp 𝕄) = held (d.tc : Thread nD τ) ucRefs W := by
  unfold unscopedBufs held ucRefs tcRefs
  rw [Finset.filter_map, bigSep_map]; rfl

theorem mem_uc (b : Ref sig .tc) (h : ¬ b.isScoped := by decide) : Proc.devRef (τ := τ) .tc b ∈ ucRefs :=
  Finset.mem_filter.mpr ⟨StableHlo.devRef_mem_tcRefs b, h⟩

theorem sub_uc {op : HloOp τ sig (Elt F)} (h : op.bufs ⊆ tcRefs τ sig) (h' : ∀ b ∈ op.bufs, ¬ b.isScoped) : op.bufs ⊆ ucRefs :=
  fun b hb => Finset.mem_filter.mpr ⟨h hb, h' b hb⟩

theorem ops1_sub : ∀ op ∈ ops1 (F := F), op.bufs ⊆ ucRefs := by
  intro op hop b hb
  simp only [ops1, List.mem_cons, List.not_mem_nil, or_false] at hop
  rcases hop with rfl | rfl | rfl | rfl <;>
    (simp only [StableHlo.TRef.unary, StableHlo.TRef.binary, StableHlo.nullary_bufs, StableHlo.unary_bufs, StableHlo.binary_bufs, StableHlo.reshape_bufs, Finset.mem_insert, Finset.mem_singleton] at hb
     rcases hb with rfl | rfl | rfl <;> exact mem_uc _)
theorem ops2_sub : ∀ op ∈ ops2 (F := F), op.bufs ⊆ ucRefs := by
  intro op hop b hb
  simp only [ops2, List.mem_cons, List.not_mem_nil, or_false] at hop
  rcases hop with rfl | rfl | rfl | rfl <;>
    (simp only [StableHlo.TRef.unary, StableHlo.TRef.binary, StableHlo.nullary_bufs, StableHlo.unary_bufs, StableHlo.binary_bufs, StableHlo.reshape_bufs, Finset.mem_insert, Finset.mem_singleton] at hb
     rcases hb with rfl | rfl | rfl <;> exact mem_uc _)
theorem ops3_sub : ∀ op ∈ ops3 (F := F), op.bufs ⊆ ucRefs := by
  intro op hop b hb
  simp only [ops3, List.mem_cons, List.not_mem_nil, or_false] at hop
  rcases hop with rfl | rfl | rfl <;>
    (simp only [StableHlo.TRef.unary, StableHlo.TRef.binary, StableHlo.nullary_bufs, StableHlo.unary_bufs, StableHlo.binary_bufs, StableHlo.reshape_bufs, Finset.mem_insert, Finset.mem_singleton] at hb
     rcases hb with rfl | rfl | rfl <;> exact mem_uc _)
theorem ops1_fresh : ∀ op ∈ ops1 (F := F), op.fresh = ∅ := by
  intro _ h; (repeat (cases h with | head => rfl | tail _ h => ?_)); exact nomatch h
theorem ops2_fresh : ∀ op ∈ ops2 (F := F), op.fresh = ∅ := by
  intro _ h; (repeat (cases h with | head => rfl | tail _ h => ?_)); exact nomatch h
theorem ops3_fresh : ∀ op ∈ ops3 (F := F), op.fresh = ∅ := by
  intro _ h; (repeat (cases h with | head => rfl | tail _ h => ?_)); exact nomatch h

/-- The three arrays of the SparseCore call out of the set, and the rest. -/
def scRefs : Finset (DevRef τ sig) := {Proc.devRef .tc main_v4, Proc.devRef .tc main_v5, Proc.devRef .tc main_v6}

theorem scRefs_sub : scRefs ⊆ ucRefs := by
  intro b hb
  simp only [scRefs, Finset.mem_insert, Finset.mem_singleton] at hb
  rcases hb with rfl | rfl | rfl
  exacts [mem_uc main_v4, mem_uc main_v5, mem_uc main_v6]

theorem held_scRefs (d : Dev nD) (W : Valuation τ sig (Elt F)) :
    (held (d.tc : Thread nD τ) scRefs W : sProp 𝕄) = iprop((iLoc d ↦{fullShare} W (Proc.devRef .tc main_v4))
      ∗ (xLoc d ↦{fullShare} W (Proc.devRef .tc main_v5)) ∗ oLoc d ↦{fullShare} W (Proc.devRef .tc main_v6)) := by
  have h1 : Proc.devRef (τ := τ) .tc main_v4 ∉ ({Proc.devRef .tc main_v5, Proc.devRef .tc main_v6} : Finset (DevRef τ sig)) := by
    simp only [Finset.mem_insert, Finset.mem_singleton, not_or]
    exact ⟨fun h => absurd (Proc.devRef_injective _ h) (by decide), fun h => absurd (Proc.devRef_injective _ h) (by decide)⟩
  have h2 : Proc.devRef (τ := τ) .tc main_v5 ∉ ({Proc.devRef .tc main_v6} : Finset (DevRef τ sig)) := by
    simp only [Finset.mem_singleton]
    exact fun h => absurd (Proc.devRef_injective _ h) (by decide)
  unfold held scRefs
  rw [SparseCore.bigSep_insert' h1, SparseCore.bigSep_insert' h2, bigSep_singleton]

/-- The rest is the same before and after the SparseCore call. -/
theorem held_rest (d : Dev nD) : (held (d.tc : Thread nD τ) (ucRefs \ scRefs) (W4 m d) : sProp 𝕄) = held (d.tc : Thread nD τ) (ucRefs \ scRefs) (W3 m d) :=
  StableHlo.held_congr _ fun b hb => by
    unfold W4
    exact Function.update_of_ne (fun h => (Finset.mem_sdiff.mp hb).2 (by rw [h]; simp [scRefs])) _ _

theorem W4_ix (d : Dev nD) : W4 m d (Proc.devRef .tc main_v4) = ixA m d := by
  unfold W4; rw [Function.update_of_ne (fun h => absurd (Proc.devRef_injective _ h) (by decide))]; rfl
theorem W4_tab (d : Dev nD) : W4 m d (Proc.devRef .tc main_v5) = tabA m d := by
  unfold W4; rw [Function.update_of_ne (fun h => absurd (Proc.devRef_injective _ h) (by decide))]; rfl
theorem W4_out (d : Dev nD) : W4 m d (Proc.devRef .tc main_v6) = res (ixA m) (tabA m) d := by
  unfold W4; rw [Function.update_self]

/-! ## The launch element -/

abbrev G (d : Dev nD) : sProp 𝕄 := iprop(Pipeline.cellsGhost cfgs EP 0 d ∗ Pipeline.toksInit cfgs EP 0 d)

def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem ghost_eq : iprop((bigSep Finset.univ fun c : Dev nD => bigSep Finset.univ fun p => Pipeline.cellsGhost cfgs EP p c)
      ∗ (bigSep Finset.univ fun c : Dev nD => bigSep Finset.univ fun p => Pipeline.toksInit cfgs EP p c))
    ⊢ (bigSep Finset.univ fun d : Dev nD => G d : sProp 𝕄) := by
  rw [show (bigSep Finset.univ fun c : Dev nD => bigSep Finset.univ fun p => Pipeline.cellsGhost cfgs EP p c)
        = (bigSep Finset.univ fun c : Dev nD => (Pipeline.cellsGhost cfgs EP 0 c : sProp 𝕄)) from bigSep_congr fun _ _ => bigSep_univ_of_subsingleton (0 : Fin 1),
      show (bigSep Finset.univ fun c : Dev nD => bigSep Finset.univ fun p => Pipeline.toksInit cfgs EP p c)
        = (bigSep Finset.univ fun c : Dev nD => (Pipeline.toksInit cfgs EP 0 c : sProp 𝕄)) from bigSep_congr fun _ _ => bigSep_univ_of_subsingleton (0 : Fin 1)]
  exact Entails.of_eq (bigSep_sep' _ _ _).symm

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (ixA m) (tabA m) (oA m)).x q thr) := by
  unfold u₀
  iintro Hu
  ihave H := (ownU_split _ _) $$ Hu
  icases H with ⟨HH, HP⟩
  ihave HP' := (Pipeline.fund_ghost cfgs EP cellOf_inj) $$ HP
  imod HP' with ⟨Hc, Ht⟩
  imodintro
  isplitl [HH]; · iexact HH
  isplitl [Hc Ht]
  · iapply (ghost_eq (F := F))
    isplitl [Hc] <;> iassumption
  rw [show (bigSep Finset.univ fun thr : Thread nD τ => bigSep Finset.univ fun q : Fin 1 => (P (ixA m) (tabA m) (oA m)).x q thr) = bigSep Finset.univ fun _ => iprop(emp) from
    bigSep_congr fun _ _ => bigSep_univ_of_subsingleton (0 : Fin 1), bigSep_emp']
  iempintro

/-- The TensorCore call's region in this run. -/
abbrev reg0 := reg (V1 m) (V2 m) (V2_0 m) (V2_1 m) (V2_2 m) (V2_ne m)
theorem reg_pre (d : Dev nD) : (reg0 m).pre d = iprop(unscopedBufs d (V1 m d) ∗ owes0 d) := rfl
theorem reg_post (d : Dev nD) : (reg0 m).post d = iprop(unscopedBufs d (V2 m d) ∗ owes0 d) := rfl

/-! ## @main on the TensorCore -/

abbrev FIN (d : Dev nD) : sProp 𝕄 := held (d.tc : Thread nD τ) ucRefs (W5 m d)

theorem hmain (κ : GSem nD τ sig → ℕ) (d : Dev nD) :
    iprop((K (F := F)).ctx EH (P (ixA m) (tabA m) (oA m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d fun b => m ((SparseCore.T d).loc b)) = (held (d.tc : Thread nD τ) ucRefs (W0 m d) : sProp 𝕄) from unscopedBufs_held d (W0 m d)]
  iintro ⟨#Hctx, Hst, ⟨Hb, Hh, Hts, -⟩, Hcg, Htk⟩
  iapply (StableHlo.wp_seq 𝒱 none Set.univ d ucRefs _ ops1 ops1_sub ops1_fresh (W0 m d)) $$ [Hb Hh]
  · isplitl [Hb] <;> iassumption
  iintro ⟨Hb, Hh⟩
  rw [wp_bind]
  iapply ((K (F := F)).wp_liftProg (D (F := F)) 𝒱 (SparseCore.T d) Set.univ none _ _)
  ihave Hst' := (Entails.of_eq (show (K (F := F)).tcSt EH d 0 = _ from by unfold SparseCore.Cfg.tcSt; rfl)) $$ Hst
  icases Hst' with ⟨⟨%Wt, %hW, HO⟩, Hst⟩
  ihave Hlev := (SparseCore.Cfg.ctx_levAts κ) $$ Hctx
  iapply (Pipeline.RegionSeg.wp pcfgs (fun p => (cfgs p).toPCfg_adm) (pdats (V1 m)) (none : HIx 1) cellOf_inj EP defs₀ 𝒱₀ (K (F := F)).L (K (F := F)).lev
    (reg0 m) d none (fun _ h => nomatch h) _ _)
  isplitr [Hb Hh HO Hcg Htk Hlev]
  · iintro ⟨Hb, Hpost⟩
    ihave Hpost' := (Entails.of_eq (reg_post m d)) $$ Hpost
    icases Hpost' with ⟨Hh, %Wt', %hW', HO⟩
    rw [wp_ret]
    imodintro
    ihave Hh := (Entails.of_eq (show (unscopedBufs d (V2 m d) : sProp 𝕄) = held (d.tc : Thread nD τ) ucRefs (W2 m d) from unscopedBufs_held d (W2 m d))) $$ Hh
    iapply (StableHlo.wp_seq 𝒱 none Set.univ d ucRefs _ ops2 ops2_sub ops2_fresh (W2 m d)) $$ [Hb Hh]
    · isplitl [Hb] <;> iassumption
    iintro ⟨Hb, Hh⟩
    rw [wp_bind]
    ihave Hh := (Entails.of_eq (show (held (d.tc : Thread nD τ) ucRefs (after ops2 (W2 m d)) : sProp 𝕄) = _ from
      (StableHlo.held_sub_split _ scRefs_sub (W3 m d)).trans (by rw [held_scRefs]))) $$ Hh
    icases Hh with ⟨⟨Hi, Hx, Ho⟩, Hrest⟩
    iapply ((K (F := F)).wp_run (D (F := F)) 𝒱 (EH := EH) (P := P (ixA m) (tabA m) (oA m)) κ d 0)
    isplitr; · iexact Hctx
    isplitl [Hst HO]
    · unfold SparseCore.Cfg.tcSt
      isplitl [HO]
      · iexists Wt'
        isplitr; · ipureintro; exact fun p hp => hW' hp
        iexact HO
      iexact Hst
    isplitl [Hi Hx Ho]
    · rw [st0_eq]
      isplitl [Hi]; · iexact Hi
      isplitl [Hx]; · iexact Hx
      iexact Ho
    iintro ⟨Hst, Hdn⟩
    ihave Hdn' := (Entails.of_eq (dn0_eq (ixA m) (tabA m) (oA m) d)) $$ Hdn
    icases Hdn' with ⟨Hi, Hx, Ho⟩
    ihave Hh := (show iprop(((iLoc d ↦{fullShare} ixA m d) ∗ (xLoc d ↦{fullShare} tabA m d) ∗ oLoc d ↦{fullShare} res (ixA m) (tabA m) d)
        ∗ held (d.tc : Thread nD τ) (ucRefs \ scRefs) (W3 m d)) ⊢ (held (d.tc : Thread nD τ) ucRefs (W4 m d) : sProp 𝕄) from by
      rw [StableHlo.held_sub_split _ scRefs_sub (W4 m d), held_scRefs, held_rest, W4_ix, W4_tab, W4_out]) $$ [Hi Hx Ho Hrest]
    · isplitr [Hrest]
      · isplitl [Hi]; · iexact Hi
        isplitl [Hx]; · iexact Hx
        iexact Ho
      iexact Hrest
    iapply (StableHlo.wp_seq 𝒱 none Set.univ d ucRefs _ ops3 ops3_sub ops3_fresh (W4 m d)) $$ [Hb Hh]
    · isplitl [Hb] <;> iassumption
    iintro ⟨Hb, Hh⟩
    rw [wp_pure]
    imodintro
    isplitl [Hst]; · iexact Hst
    isplitl [Hh]; · iexact Hh
    isplitl [Hb] <;> iassumption
  isplitl [Hb]; · iexact Hb
  isplitl [Hh HO]
  · iapply (Entails.of_eq (reg_pre m d).symm)
    isplitl [Hh]
    · iapply (Entails.of_eq (unscopedBufs_held d (W1 m d)).symm); iexact Hh
    iexists Wt
    isplitr; · ipureintro; exact fun p hp => hW p hp
    iexact HO
  isplitl [Hlev]; · iexact Hlev
  isplitl [Hcg] <;> iassumption

/-! ## The final memory and the run -/

/-- A held array's contents are the final memory's. -/
theorem agree_one (d : Dev nD) (b : Ref sig .tc) (hb : Proc.devRef (τ := τ) .tc b ∈ ucRefs) (W : Valuation τ sig (Elt F)) (s' : Phys nD τ sig (Elt F)) :
    iprop(held (d.tc : Thread nD τ) ucRefs W ∗ SI s') ⊢ (⌜s'.mem.mem ((SparseCore.T d).loc b) = W (Proc.devRef .tc b)⌝ : sProp 𝕄) := by
  iintro ⟨Hh, HSI⟩
  ihave Hp := (show held (d.tc : Thread nD τ) ucRefs W ⊢ ((SparseCore.T d).loc b ↦{fullShare} W (Proc.devRef .tc b) : sProp 𝕄) from
    bigSep_elim (Φ := fun b => ((d, b) ↦{fullShare} W b : sProp 𝕄)) hb) $$ Hh
  ihave H := (SI_pointsTo_agree (st := s') (ℓ := (SparseCore.T d).loc b) (I := Finset.univ) (q := fullShare) (f := W (Proc.devRef .tc b))) $$ [HSI Hp]
  · isplitl [HSI] <;> iassumption
  icases H with %h
  ipureintro; exact funext fun i => h i (Finset.mem_univ i)

def fq (d : Dev nD) (s' : Phys nD τ sig (Elt F)) : Prop :=
  ∀ b : Ref sig .tc, Proc.devRef (τ := τ) .tc b ∈ ucRefs → s'.mem.mem ((SparseCore.T d).loc b) = W5 m d (Proc.devRef .tc b)

theorem hfin (d : Dev nD) (s' : Phys nD τ sig (Elt F)) : iprop(FIN m d ∗ SI s') ⊢ (⌜fq m d s'⌝ : sProp 𝕄) := by
  unfold fq
  refine BIBase.Entails.trans ?_ pure_forall.2
  refine forall_intro fun b => ?_
  by_cases hb : Proc.devRef (τ := τ) .tc b ∈ ucRefs
  · exact (agree_one d b hb (W5 m d) s').trans (Laws.pure_mono fun h _ => h)
  · exact BIClass.pure_intro fun h => absurd h hb

/-- At the end every unscoped array of every device holds `W5`, and every semaphore counter reads zero. -/
def QC : PUnit × MemSt nD τ sig (Elt F) → Prop := fun r =>
  (∀ (d : Dev nD) (b : Ref sig .tc), Proc.devRef (τ := τ) .tc b ∈ ucRefs → r.2.mem ((SparseCore.T d).loc b) = W5 m d (Proc.devRef .tc b)) ∧ r.2.sem = fun _ => 0

theorem run_main [∀ e, Nonempty (Elt F e)] (hrows : RowsOk m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ixA m) (tabA m) (oA m)) (A := ∅) facts v₀
    (fun q hq => match q with | 0 => nomatch hq)
    (fun q _ => match q with | 0 => tileObl (ixA m) (tabA m) (oA m) facts hrows)
    (fun q _ => match q with | 0 => SparseCore.Cfg.VecSplit.of_plain (vecSplit (ixA m) (tabA m) (oA m)))
    m ρ main G (FIN m) (u₀ (F := F)) (sep_elim_left.trans (hu₀ m)) (hmain m ρ) (fq m) (hfin m) (QC m) (fun _ h hz => ⟨h, hz⟩)

end Contents

end Cert.Proof.Kern

end
-- ==== Proof.KernValue.lean ====
/-
  What the arrays hold at the end of the program's run, in terms of the two arguments: the row numbers, the loss and the
  perplexity the TensorCore call leaves, and the rows the SparseCore call gathers.
-/
module

public import proofs.«01_k».proof.Proof.Main
public import Idealize.ShloMosaic.Lib.Pipeline.ValueKit
public import Idealize.ShloMosaic.Lib.Pointwise

@[expose] public section

noncomputable section

namespace Cert.Proof.Kern

open Cert.KernelIdeal Cert.KernelIdeal.Gen

open Idealize.ShloMosaic
open Idealize.ShloMosaic.TcCoe Idealize.ShloMosaic.Tactic
open Idealize.ShloMosaic.StableHlo (seq after held tcRefs)
open Idealize.ShloMosaic.Pipeline (Dat Cfg Window)

variable {F : FTy → Type} [FloatOps F]

section Region

variable (V : (c : Dev nD) → (b : Ref sig .tc) → Buf (Elt F) ((c : Thread nD τ).loc b))

/-- The grid point whose block holds the row numbers at `i`. -/
def pt (i : S32x1x512.Idx) : Fin cfg0.N := ⟨(i 0).val, lt_of_lt_of_eq (i 0).isLt N_0.symm⟩

theorem lt_31 : 31 < cfg0.N := lt_of_lt_of_eq (by omega : 31 < 32) N_0.symm

/-- The row numbers of every point, as the call's first result. -/
def rowsG (c : Dev nD) : (⟨S32x1x512, .i32⟩ : BufTy).Contents (Elt F) :=
  fun i => k0_pay8 (iblk V c 0 (pt i)) (iblk V c 1 (pt i)) (iblk V c 2 (pt i)) (ix1 (i 2))

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0, 0] := (by decide +kernel : ∀ t : Fin grid0.N, _)

theorem cast_row (v : IVec S512 32) (z : S1x1x512.Idx) : k0_pay1 v z = v (ix1 (z 2)) := by
  unfold k0_pay1
  idx_vars z
  pointwise

theorem arr_3 (c : Dev nD) : (dat V c).arrAt 3 cfg0.N = rowsG V c := by
  refine (dat V c).arrAt_eq_of_covers 3 _ (by decide +kernel) fun t hf y => ?_
  blk_simp
  rw [after_3]
  have ht : pt ((win0_3.blk t).view.emb y) = t := by
    apply Fin.ext
    show (((win0_3.blk t).view.emb y 0 : Fin _) : ℕ) = t.val
    have h0 : ((y 0 : Fin _) : ℕ) < 1 := (y 0).isLt
    blk_simp [index_3 t]
  unfold rowsG
  rw [ht]
  have h2 : ix1 ((win0_3.blk t).view.emb y 2) = (ix1 (y 2) : S512.Idx) := by
    refine congrArg ix1 (Fin.ext ?_)
    show (((win0_3.blk t).view.emb y 2 : Fin _) : ℕ) = (y 2).val
    blk_simp [index_3 t]
  exact (cast_row (k0_pay8 (iblk V c 0 t) (iblk V c 1 t) (iblk V c 2 t)) y).trans (congrArg _ h2.symm)

theorem arr_4 (c : Dev nD) : (dat V c).arrAt 4 cfg0.N = k0_pay5 (accAt V c 31 lt_31).2 := by
  refine (dat V c).arrAt_eq_of_after_last 4 ⟨31, lt_31⟩ (by decide +kernel) _ fun j => ?_
  rw [after_4]; rfl

theorem arr_5 (c : Dev nD) : (dat V c).arrAt 5 cfg0.N = k0_pay6 (accAt V c 31 lt_31).1 := by
  refine (dat V c).arrAt_eq_of_after_last 5 ⟨31, lt_31⟩ (by decide +kernel) _ fun j => ?_
  rw [after_5]; rfl

/-- The blocks of the three inputs. -/
theorem iblk_0 (c : Dev nD) (t : Fin cfg0.N) (r : Fin 512) (k : Fin 64) :
    (iblk V c 0 t : Vec F S512x64 .f32) (ix2 r k) = (V c main_arg0 : Vec F S16384x64 .f32) (ix2 ⟨512 * t.val + r.val, by have := lt_of_lt_of_eq t.isLt N_0; omega⟩ k) := by
  blk_simp [iblk]
  refine congrArg _ ?_
  blk_ext [index_0 t, index_1 t, index_2 t]
theorem iblk_1 (c : Dev nD) (t : Fin cfg0.N) : (iblk V c 1 t : Vec F S1024x64 .f32) = V c main_arg1 := by
  funext x
  blk_simp [iblk]
  refine congrArg _ ?_
  blk_ext [index_0 t, index_1 t, index_2 t]
theorem iblk_2 (c : Dev nD) (t : Fin cfg0.N) : (iblk V c 2 t : Vec F S1x1024 .f32) = V c main_v2 := by
  funext x
  blk_simp [iblk]
  refine congrArg _ ?_
  blk_ext [index_0 t, index_1 t, index_2 t]

end Region

/-! ## Along @main -/

section Contents

variable (m : (ℓ : Loc nD τ sig) → Buf (Elt F) ℓ)

theorem W1_arg0 (d : Dev nD) : W1 m d (Proc.devRef .tc main_arg0) = m ((d : Thread nD τ).loc main_arg0) := by
  unfold W1 ops1; after_results; rfl
theorem W1_arg1 (d : Dev nD) : W1 m d (Proc.devRef .tc main_arg1) = m ((d : Thread nD τ).loc main_arg1) := by
  unfold W1 ops1; after_results; rfl

/-- The codebook's squared row norms. -/
def norms (x : Vec F S1024x64 .f32) : Vec F S1x1024 .f32 :=
  shapeCast S1x1024 (Host.reduceAdd (mulf x x) (constant S_ .f32 0x00000000#32) reducesTo_S1024x64_S1024_d1 h_S_) shapeCasts_S1024_S1x1024

theorem W1_v2 (d : Dev nD) : W1 m d (Proc.devRef .tc main_v2) = norms (F := F) (m ((d : Thread nD τ).loc main_arg1)) := by
  unfold W1 ops1; after_results; rfl

theorem W2_ne (d : Dev nD) (b : Ref sig .tc) (h0 : b ≠ main_v3_0) (h1 : b ≠ main_v3_1) (h2 : b ≠ main_v3_2) :
    W2 m d (Proc.devRef .tc b) = W1 m d (Proc.devRef .tc b) := V2_ne m d b h0 h1 h2

theorem ixA_eq (d : Dev nD) : ixA m d = shapeCast S16384 (rowsG (V1 m) d) shapeCasts_S32x1x512_S16384 := by
  have h : W2 m d (Proc.devRef .tc main_v3_0) = rowsG (V1 m) d := (V2_0 m d).trans (arr_3 (V1 m) d)
  unfold ixA W3 ops2; after_results
  rw [h]; rfl

theorem tabA_eq (d : Dev nD) : tabA m d = pad S1024x128 ![0, 0] ![0, 64] ![0, 0] (m ((d : Thread nD τ).loc main_arg1) : Vec F S1024x64 .f32)
    (sitofp .f32 (constantI S_ 32 0#32) : FVec F S_ .f32) pads_S1024x64_S1024x128_000_0640 h_S_ := by
  have h : W2 m d (Proc.devRef .tc main_arg1) = m ((d : Thread nD τ).loc main_arg1) :=
    (W2_ne m d main_arg1 (by decide) (by decide) (by decide)).trans (W1_arg1 m d)
  unfold tabA W3 ops2; after_results
  simp only [StableHlo.TRef.ofBuf, StableHlo.TRef.toBuf, cast_eq]
  rw [h]

theorem W4_ne (d : Dev nD) (b : Ref sig .tc) (h : b ≠ main_v6) : W4 m d (Proc.devRef .tc b) = W3 m d (Proc.devRef .tc b) := by
  unfold W4; rw [Function.update_of_ne (fun e => h (Proc.devRef_injective _ e))]
theorem W3_arg0 (d : Dev nD) : W3 m d (Proc.devRef .tc main_arg0) = m ((d : Thread nD τ).loc main_arg0) := by
  refine Eq.trans ?_ ((W2_ne m d main_arg0 (by decide) (by decide) (by decide)).trans (W1_arg0 m d))
  unfold W3 ops2; after_results
theorem W3_arg1 (d : Dev nD) : W3 m d (Proc.devRef .tc main_arg1) = m ((d : Thread nD τ).loc main_arg1) := by
  refine Eq.trans ?_ ((W2_ne m d main_arg1 (by decide) (by decide) (by decide)).trans (W1_arg1 m d))
  unfold W3 ops2; after_results
theorem W3_1 (d : Dev nD) : W3 m d (Proc.devRef .tc main_v3_1) = k0_pay5 (accAt (V1 m) d 31 lt_31).2 := by
  refine Eq.trans ?_ ((V2_1 m d).trans (arr_4 (V1 m) d))
  unfold W3 ops2; after_results; rfl
theorem W3_2 (d : Dev nD) : W3 m d (Proc.devRef .tc main_v3_2) = k0_pay6 (accAt (V1 m) d 31 lt_31).1 := by
  refine Eq.trans ?_ ((V2_2 m d).trans (arr_5 (V1 m) d))
  unfold W3 ops2; after_results; rfl

theorem W5_arg0 (d : Dev nD) : W5 m d (Proc.devRef .tc main_arg0) = m ((d : Thread nD τ).loc main_arg0) := by
  refine Eq.trans ?_ ((W4_ne m d main_arg0 (by decide)).trans (W3_arg0 m d))
  unfold W5 ops3; after_results
theorem W5_arg1 (d : Dev nD) : W5 m d (Proc.devRef .tc main_arg1) = m ((d : Thread nD τ).loc main_arg1) := by
  refine Eq.trans ?_ ((W4_ne m d main_arg1 (by decide)).trans (W3_arg1 m d))
  unfold W5 ops3; after_results
theorem W5_v7 (d : Dev nD) : W5 m d (Proc.devRef .tc main_v7)
    = extractStridedSlice S16384x64 ![0, 0] (res (ixA m) (tabA m) d : Vec F S16384x128 .f32) slices_S16384x128_S16384x64_0_0 := by
  have h : W4 m d (Proc.devRef .tc main_v6) = res (ixA m) (tabA m) d := by unfold W4; rw [Function.update_self]
  unfold W5 ops3; after_results
  rw [h]
theorem W5_v8 (d : Dev nD) : W5 m d (Proc.devRef .tc main_v8)
    = shapeCast S_ (k0_pay5 (accAt (V1 m) d 31 lt_31).2) shapeCasts_S1x1_S_ := by
  have h : W4 m d (Proc.devRef .tc main_v3_1) = k0_pay5 (accAt (V1 m) d 31 lt_31).2 := (W4_ne m d main_v3_1 (by decide)).trans (W3_1 m d)
  unfold W5 ops3; after_results
  rw [h]; rfl
theorem W5_v9 (d : Dev nD) : W5 m d (Proc.devRef .tc main_v9)
    = shapeCast S_ (k0_pay6 (accAt (V1 m) d 31 lt_31).1) shapeCasts_S1x1_S_ := by
  have h : W4 m d (Proc.devRef .tc main_v3_2) = k0_pay6 (accAt (V1 m) d 31 lt_31).1 := (W4_ne m d main_v3_2 (by decide)).trans (W3_2 m d)
  unfold W5 ops3; after_results
  rw [h]; rfl

/-- Block `n` of 512 of the points. -/
def blkX (x : Vec F S16384x64 .f32) (n : ℕ) (hn : n < 32) : Vec F S512x64 .f32 :=
  fun i => x (ix2 ⟨512 * n + (i 0).val, by have h : (i 0).val < 512 := (i 0).isLt; omega⟩ ⟨(i 1).val, (i 1).isLt⟩)

theorem iblk_arg0 (d : Dev nD) (t : Fin cfg0.N) (hn : t.val < 32) :
    (iblk (V1 m) d 0 t : Vec F S512x64 .f32) = blkX (m ((d : Thread nD τ).loc main_arg0)) t.val hn := by
  funext i
  obtain ⟨r, k, rfl⟩ : ∃ r k, i = ix2 r k := ⟨i 0, i 1, eq_ix2 i⟩
  refine (iblk_0 (V1 m) d t r k).trans ?_
  have h : V1 m d main_arg0 = m ((d : Thread nD τ).loc main_arg0) := W1_arg0 m d
  rw [h]; rfl
theorem iblk_arg1 (d : Dev nD) (t : Fin cfg0.N) : (iblk (V1 m) d 1 t : Vec F S1024x64 .f32) = m ((d : Thread nD τ).loc main_arg1) :=
  (iblk_1 (V1 m) d t).trans (W1_arg1 m d)
theorem iblk_v2 (d : Dev nD) (t : Fin cfg0.N) : (iblk (V1 m) d 2 t : Vec F S1x1024 .f32) = norms (F := F) (m ((d : Thread nD τ).loc main_arg1)) :=
  (iblk_2 (V1 m) d t).trans (W1_v2 m d)

/-- The row numbers of block `n` of the points. -/
def rowsOf (x : Vec F S16384x64 .f32) (c : Vec F S1024x64 .f32) (n : ℕ) (hn : n < 32) : IVec S512 32 := k0_pay8 (blkX x n hn) c (norms c)

/-- The counts and the squared error of the blocks up to block `n`. -/
def accOf (x : Vec F S16384x64 .f32) (c : Vec F S1024x64 .f32) : (n : ℕ) → n < 32 → FVec F S1x1024 .f32 × F .f32
  | 0, h => (cntOut (blkX x 0 h) c (norms c) k0_pay2, sseOut (blkX x 0 h) c (norms c) sse0)
  | n + 1, h => (cntOut (blkX x (n + 1) h) c (norms c) (accOf x c n (Nat.lt_of_succ_lt h)).1,
      sseOut (blkX x (n + 1) h) c (norms c) (accOf x c n (Nat.lt_of_succ_lt h)).2)

theorem accAt_eq (d : Dev nD) : ∀ (n : ℕ) (h : n < cfg0.N) (h' : n < 32), accAt (V1 m) d n h
    = accOf (m ((d : Thread nD τ).loc main_arg0)) (m ((d : Thread nD τ).loc main_arg1)) n h'
  | 0, h, h' => by
    unfold accAt accOf
    rw [iblk_arg0 m d ⟨0, h⟩ h', iblk_arg1, iblk_v2]
  | n + 1, h, h' => by
    unfold accAt accOf
    rw [iblk_arg0 m d ⟨n + 1, h⟩ h', iblk_arg1, iblk_v2, accAt_eq d n (Nat.lt_of_succ_lt h) (Nat.lt_of_succ_lt h')]

theorem rowsG_eq (d : Dev nD) (t : Fin 32) (r : Fin 512) :
    rowsG (V1 m) d (ix3 t 0 r) = rowsOf (m ((d : Thread nD τ).loc main_arg0)) (m ((d : Thread nD τ).loc main_arg1)) t.val t.isLt (ix1 r) := by
  unfold rowsG rowsOf
  rw [iblk_arg0 m d (pt (ix3 t 0 r)) t.isLt, iblk_arg1, iblk_v2]; rfl

/-- The run, read at the results. -/
theorem run_values [∀ e, Nonempty (Elt F e)] (ρ : Dev nD → PrngReg) (hrows : RowsOk m) :
    θ_run (Cert.KernelIdeal.defs (F := F)) (Cert.KernelIdeal.threads (F := F)) ⟨m, fun _ => 0, ρ⟩ fun r =>
      (∀ d : Dev nD,
        r.2.mem ((d : Thread nD τ).loc main_v8)
            = shapeCast S_ (k0_pay5 (accOf (m ((d : Thread nD τ).loc main_arg0)) (m ((d : Thread nD τ).loc main_arg1)) 31 (by omega)).2) shapeCasts_S1x1_S_
        ∧ r.2.mem ((d : Thread nD τ).loc main_v7)
            = extractStridedSlice S16384x64 ![0, 0] (res (ixA m) (tabA m) d : Vec F S16384x128 .f32) slices_S16384x128_S16384x64_0_0
        ∧ r.2.mem ((d : Thread nD τ).loc main_v9)
            = shapeCast S_ (k0_pay6 (accOf (m ((d : Thread nD τ).loc main_arg0)) (m ((d : Thread nD τ).loc main_arg1)) 31 (by omega)).1) shapeCasts_S1x1_S_
        ∧ r.2.mem ((d : Thread nD τ).loc main_arg0) = m ((d : Thread nD τ).loc main_arg0)
        ∧ r.2.mem ((d : Thread nD τ).loc main_arg1) = m ((d : Thread nD τ).loc main_arg1))
      ∧ r.2.sem = fun _ => 0 :=
  (θ_run _ _ _).mono (fun r h => ⟨fun d =>
    ⟨((h.1 d _ (mem_uc main_v8)).trans (W5_v8 m d)).trans (by rw [accAt_eq m d 31 lt_31 (by omega)]),
      (h.1 d _ (mem_uc main_v7)).trans (W5_v7 m d),
      ((h.1 d _ (mem_uc main_v9)).trans (W5_v9 m d)).trans (by rw [accAt_eq m d 31 lt_31 (by omega)]),
      (h.1 d _ (mem_uc main_arg0)).trans (W5_arg0 m d), (h.1 d _ (mem_uc main_arg1)).trans (W5_arg1 m d)⟩, h.2⟩)
    (run_main m ρ hrows)

end Contents

end Cert.Proof.Kern
-- ==== Proof.RefRun.lean ====
/-
  The run of the reference program: a straight line of host operations over its own buffers. From any memory whose
  counters are zero it terminates, leaves its arguments as they were and its results at the operations' values, which
  are written here as functions of the two arrays.
-/
module

public import Idealize.ShloMosaic.Lib.StableHlo.Run
public import Idealize.ShloMosaic.Lib.Quiescent
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations that make the distances, in order. -/
abbrev distOps : List (HloOp τ sig (Elt F)) :=
  [ StableHlo.binary main_arg0 main_arg0 main_v0 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v1 main_v2 (broadcastInDim S16384x1 ![0] bcast_S16384_S16384x1_0 : (⟨S16384, .f32⟩ : BufTy).Contents (Elt F) → (⟨S16384x1, .f32⟩ : BufTy).Contents (Elt F)),
    StableHlo.binary main_arg1 main_arg1 main_v3 (mulf : (⟨S1024x64, .f32⟩ : BufTy).Contents (Elt F) → (⟨S1024x64, .f32⟩ : BufTy).Contents (Elt F) → (⟨S1024x64, .f32⟩ : BufTy).Contents (Elt F)),
    StableHlo.nullary main_cst_0 (constant S_ .f32 0x00000000#32),
    StableHlo.binary main_v3 main_cst_0 main_v4 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_arg1 main_v5 ((transpose S64x1024 [1, 0] · transposes_S1024x64_S64x1024_1_0) : (⟨S1024x64, .f32⟩ : BufTy).Contents (Elt F) → (⟨S64x1024, .f32⟩ : BufTy).Contents (Elt F)),
    StableHlo.binary main_arg0 main_v5 main_v6 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    StableHlo.nullary main_cst_1 (constant S_ .f32 0x40000000#32),
    StableHlo.unary main_cst_1 main_v7 (broadcastInDim S16384x1024 ![] bcast_S_S16384x1024 : (⟨S_, .f32⟩ : BufTy).Contents (Elt F) → (⟨S16384x1024, .f32⟩ : BufTy).Contents (Elt F)),
    StableHlo.binary main_v7 main_v6 main_v8 (mulf : (⟨S16384x1024, .f32⟩ : BufTy).Contents (Elt F) → (⟨S16384x1024, .f32⟩ : BufTy).Contents (Elt F) → (⟨S16384x1024, .f32⟩ : BufTy).Contents (Elt F)),
    StableHlo.unary main_v2 main_v9 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v9 main_v8 main_v10 (subf : (⟨S16384x1024, .f32⟩ : BufTy).Contents (Elt F) → (⟨S16384x1024, .f32⟩ : BufTy).Contents (Elt F) → (⟨S16384x1024, .f32⟩ : BufTy).Contents (Elt F)),
    StableHlo.unary main_v4 main_v11 (broadcastInDim S1x1024 ![1] bcast_S1024_S1x1024_1 : (⟨S1024, .f32⟩ : BufTy).Contents (Elt F) → (⟨S1x1024, .f32⟩ : BufTy).Contents (Elt F)),
    StableHlo.unary main_v11 main_v12 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v10 main_v12 main_v13 (addf : (⟨S16384x1024, .f32⟩ : BufTy).Contents (Elt F) → (⟨S16384x1024, .f32⟩ : BufTy).Contents (Elt F) → (⟨S16384x1024, .f32⟩ : BufTy).Contents (Elt F)),
    StableHlo.nullary main_cst_2 (constant S_ .f32 0x00000000#32),
    StableHlo.unary main_cst_2 main_v14 (broadcastInDim S16384x1024 ![] bcast_S_S16384x1024 : (⟨S_, .f32⟩ : BufTy).Contents (Elt F) → (⟨S16384x1024, .f32⟩ : BufTy).Contents (Elt F)),
    StableHlo.binary main_v13 main_v14 main_v15 (maximumf : (⟨S16384x1024, .f32⟩ : BufTy).Contents (Elt F) → (⟨S16384x1024, .f32⟩ : BufTy).Contents (Elt F) → (⟨S16384x1024, .f32⟩ : BufTy).Contents (Elt F)),
    StableHlo.unary main_v15 main_v16 (Host.sqrt : (⟨S16384x1024, .f32⟩ : BufTy).Contents (Elt F) → (⟨S16384x1024, .f32⟩ : BufTy).Contents (Elt F)) ]

/-- The operations that make the number of the nearest row, in order. -/
abbrev argOps : List (HloOp τ sig (Elt F)) :=
  [ StableHlo.TRef.nullary (.of main_call0_v0 : TRef sig ⟨S16384x1024, .i32⟩) (iotaInDim S16384x1024 32 1),
    StableHlo.TRef.nullary (.of main_call0_cst : TRef sig ⟨S_, .f32⟩) (constant S_ .f32 0x7F800000#32),
    StableHlo.TRef.nullary (.of main_call0_c : TRef sig ⟨S_, .i32⟩) (constantI S_ 32 0#32),
    StableHlo.TRef.quaternary (.of main_v16 : TRef sig ⟨S16384x1024, .f32⟩) (.of main_call0_v0 : TRef sig ⟨S16384x1024, .i32⟩) (.of main_call0_cst : TRef sig ⟨S_, .f32⟩) (.of main_call0_c : TRef sig ⟨S_, .i32⟩) (.of main_call0_v1_0 : TRef sig ⟨S16384, .f32⟩) (fun x y u v j => (Host.argReduce reducer_argmin_f32_i32 x y u v reducesTo_S16384x1024_S16384_d1 h_S_ j).1),
    StableHlo.TRef.quaternary (.of main_v16 : TRef sig ⟨S16384x1024, .f32⟩) (.of main_call0_v0 : TRef sig ⟨S16384x1024, .i32⟩) (.of main_call0_cst : TRef sig ⟨S_, .f32⟩) (.of main_call0_c : TRef sig ⟨S_, .i32⟩) (.of main_v17 : TRef sig ⟨S16384, .i32⟩) (fun x y u v j => (Host.argReduce reducer_argmin_f32_i32 x y u v reducesTo_S16384x1024_S16384_d1 h_S_ j).2) ]

/-- The operations that make the rows taken, in order. -/
abbrev takeOps : List (HloOp τ sig (Elt F)) :=
  [ StableHlo.TRef.nullary (.of main_call1_c : TRef sig ⟨S_, .i32⟩) (constantI S_ 32 0#32),
    StableHlo.TRef.unary (.of main_call1_c : TRef sig ⟨S_, .i32⟩) (.of main_call1_v0 : TRef sig ⟨S16384, .i32⟩) (broadcastInDim S16384 ![] bcast_S_S16384),
    StableHlo.TRef.binary (.of main_v17 : TRef sig ⟨S16384, .i32⟩) (.of main_call1_v0 : TRef sig ⟨S16384, .i32⟩) (.of main_call1_v1 : TRef sig ⟨S16384, .i1⟩) (cmpi .slt),
    StableHlo.TRef.nullary (.of main_call1_c_0 : TRef sig ⟨S_, .i32⟩) (constantI S_ 32 1024#32),
    StableHlo.TRef.unary (.of main_call1_c_0 : TRef sig ⟨S_, .i32⟩) (.of main_call1_v2 : TRef sig ⟨S16384, .i32⟩) (broadcastInDim S16384 ![] bcast_S_S16384),
    StableHlo.TRef.binary (.of main_v17 : TRef sig ⟨S16384, .i32⟩) (.of main_call1_v2 : TRef sig ⟨S16384, .i32⟩) (.of main_call1_v3 : TRef sig ⟨S16384, .i32⟩) addi,
    StableHlo.TRef.ternary (.of main_call1_v1 : TRef sig ⟨S16384, .i1⟩) (.of main_call1_v3 : TRef sig ⟨S16384, .i32⟩) (.of main_v17 : TRef sig ⟨S16384, .i32⟩) (.of main_call1_v4 : TRef sig ⟨S16384, .i32⟩) select,
    StableHlo.TRef.unary (.of main_call1_v4 : TRef sig ⟨S16384, .i32⟩) (.of main_call1_v5 : TRef sig ⟨S16384x1, .i32⟩) (broadcastInDim S16384x1 ![0] bcast_S16384_S16384x1_0),
    StableHlo.TRef.nullary (.of main_call1_c_1 : TRef sig ⟨S1, .i32⟩) (constantI S1 32 1023#32),
    StableHlo.TRef.nullary (.of main_call1_c_2 : TRef sig ⟨S_, .i32⟩) (constantI S_ 32 0#32),
    StableHlo.TRef.unary (.of main_call1_c_2 : TRef sig ⟨S_, .i32⟩) (.of main_call1_v6 : TRef sig ⟨S16384x1, .i32⟩) (broadcastInDim S16384x1 ![] bcast_S_S16384x1),
    StableHlo.TRef.binary (.of main_call1_v5 : TRef sig ⟨S16384x1, .i32⟩) (.of main_call1_v6 : TRef sig ⟨S16384x1, .i32⟩) (.of main_call1_v7 : TRef sig ⟨S16384x1, .i1⟩) (cmpi .sge),
    StableHlo.TRef.unary (.of main_call1_c_1 : TRef sig ⟨S1, .i32⟩) (.of main_call1_v8 : TRef sig ⟨S1x1, .i32⟩) (broadcastInDim S1x1 ![1] bcast_S1_S1x1_1),
    StableHlo.TRef.unary (.of main_call1_v8 : TRef sig ⟨S1x1, .i32⟩) (.of main_call1_v9 : TRef sig ⟨S16384x1, .i32⟩) (broadcastInDim S16384x1 ![0, 1] bcast_S1x1_S16384x1_0_1),
    StableHlo.TRef.binary (.of main_call1_v5 : TRef sig ⟨S16384x1, .i32⟩) (.of main_call1_v9 : TRef sig ⟨S16384x1, .i32⟩) (.of main_call1_v10 : TRef sig ⟨S16384x1, .i1⟩) (cmpi .sle),
    StableHlo.TRef.binary (.of main_call1_v7 : TRef sig ⟨S16384x1, .i1⟩) (.of main_call1_v10 : TRef sig ⟨S16384x1, .i1⟩) (.of main_call1_v11 : TRef sig ⟨S16384x1, .i1⟩) andi,
    StableHlo.TRef.nullary (.of main_call1_c_3 : TRef sig ⟨S_, .i1⟩) (constantI S_ 1 1#1),
    StableHlo.TRef.binary (.of main_call1_v11 : TRef sig ⟨S16384x1, .i1⟩) (.of main_call1_c_3 : TRef sig ⟨S_, .i1⟩) (.of main_call1_v12 : TRef sig ⟨S16384, .i1⟩) (fun x v => Host.reduce IntOp.andi x v reducesTo_S16384x1_S16384_d1 h_S_),
    StableHlo.TRef.binary (.of main_arg1 : TRef sig ⟨S1024x64, .f32⟩) (.of main_call1_v5 : TRef sig ⟨S16384x1, .i32⟩) (.of main_call1_v13 : TRef sig ⟨S16384x64, .f32⟩) (fun x i => Host.gather gather_S1024x64_S16384x1_S16384x64_1_0_n_n_0_1_164 x i),
    StableHlo.TRef.unary (.of main_call1_v12 : TRef sig ⟨S16384, .i1⟩) (.of main_call1_v14 : TRef sig ⟨S16384x64, .i1⟩) (broadcastInDim S16384x64 ![0] bcast_S16384_S16384x64_0),
    StableHlo.TRef.nullary (.of main_call1_cst : TRef sig ⟨S_, .f32⟩) (constant S_ .f32 0x7FC00000#32),
    StableHlo.TRef.unary (.of main_call1_cst : TRef sig ⟨S_, .f32⟩) (.of main_call1_v15 : TRef sig ⟨S16384x64, .f32⟩) (broadcastInDim S16384x64 ![] bcast_S_S16384x64),
    StableHlo.TRef.ternary (.of main_call1_v14 : TRef sig ⟨S16384x64, .i1⟩) (.of main_call1_v13 : TRef sig ⟨S16384x64, .f32⟩) (.of main_call1_v15 : TRef sig ⟨S16384x64, .f32⟩) (.of main_v18 : TRef sig ⟨S16384x64, .f32⟩) select ]

/-- The operations that make the loss and the straight-through output, in order. -/
abbrev midOps : List (HloOp τ sig (Elt F)) :=
  [ StableHlo.binary main_v18 main_arg0 main_v19 (subf : (⟨S16384x64, .f32⟩ : BufTy).Contents (Elt F) → (⟨S16384x64, .f32⟩ : BufTy).Contents (Elt F) → (⟨S16384x64, .f32⟩ : BufTy).Contents (Elt F)),
    StableHlo.binary main_v19 main_v19 main_v20 (mulf : (⟨S16384x64, .f32⟩ : BufTy).Contents (Elt F) → (⟨S16384x64, .f32⟩ : BufTy).Contents (Elt F) → (⟨S16384x64, .f32⟩ : BufTy).Contents (Elt F)),
    StableHlo.nullary main_cst_3 (constant S_ .f32 0x00000000#32),
    StableHlo.binary main_v20 main_cst_3 main_v21 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    StableHlo.nullary main_cst_4 (constant S_ .f32 0x49800000#32),
    StableHlo.binary main_v21 main_cst_4 main_v22 (Host.divf : (⟨S_, .f32⟩ : BufTy).Contents (Elt F) → (⟨S_, .f32⟩ : BufTy).Contents (Elt F) → (⟨S_, .f32⟩ : BufTy).Contents (Elt F)),
    StableHlo.binary main_v18 main_arg0 main_v23 (subf : (⟨S16384x64, .f32⟩ : BufTy).Contents (Elt F) → (⟨S16384x64, .f32⟩ : BufTy).Contents (Elt F) → (⟨S16384x64, .f32⟩ : BufTy).Contents (Elt F)),
    StableHlo.binary main_v23 main_v23 main_v24 (mulf : (⟨S16384x64, .f32⟩ : BufTy).Contents (Elt F) → (⟨S16384x64, .f32⟩ : BufTy).Contents (Elt F) → (⟨S16384x64, .f32⟩ : BufTy).Contents (Elt F)),
    StableHlo.nullary main_cst_5 (constant S_ .f32 0x00000000#32),
    StableHlo.binary main_v24 main_cst_5 main_v25 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    StableHlo.nullary main_cst_6 (constant S_ .f32 0x49800000#32),
    StableHlo.binary main_v25 main_cst_6 main_v26 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x3E800000#32),
    StableHlo.binary main_cst_7 main_v22 main_v27 (mulf : (⟨S_, .f32⟩ : BufTy).Contents (Elt F) → (⟨S_, .f32⟩ : BufTy).Contents (Elt F) → (⟨S_, .f32⟩ : BufTy).Contents (Elt F)),
    StableHlo.binary main_v26 main_v27 main_v28 (addf : (⟨S_, .f32⟩ : BufTy).Contents (Elt F) → (⟨S_, .f32⟩ : BufTy).Contents (Elt F) → (⟨S_, .f32⟩ : BufTy).Contents (Elt F)),
    StableHlo.binary main_v18 main_arg0 main_v29 (subf : (⟨S16384x64, .f32⟩ : BufTy).Contents (Elt F) → (⟨S16384x64, .f32⟩ : BufTy).Contents (Elt F) → (⟨S16384x64, .f32⟩ : BufTy).Contents (Elt F)),
    StableHlo.binary main_arg0 main_v29 main_v30 (addf : (⟨S16384x64, .f32⟩ : BufTy).Contents (Elt F) → (⟨S16384x64, .f32⟩ : BufTy).Contents (Elt F) → (⟨S16384x64, .f32⟩ : BufTy).Contents (Elt F)) ]

/-- The operations that make the one-hot array, in order. -/
abbrev hotOps : List (HloOp τ sig (Elt F)) :=
  [ StableHlo.TRef.unary (.of main_v17 : TRef sig ⟨S16384, .i32⟩) (.of main_call2_v0 : TRef sig ⟨S16384x1, .i32⟩) (broadcastInDim S16384x1 ![0] bcast_S16384_S16384x1_0),
    StableHlo.TRef.nullary (.of main_call2_v1 : TRef sig ⟨S1x1024, .i32⟩) (iotaInDim S1x1024 32 1),
    StableHlo.TRef.unary (.of main_call2_v0 : TRef sig ⟨S16384x1, .i32⟩) (.of main_call2_v2 : TRef sig ⟨S16384x1024, .i32⟩) (broadcastInDim S16384x1024 ![0, 1] bcast_S16384x1_S16384x1024_0_1),
    StableHlo.TRef.unary (.of main_call2_v1 : TRef sig ⟨S1x1024, .i32⟩) (.of main_call2_v3 : TRef sig ⟨S16384x1024, .i32⟩) (broadcastInDim S16384x1024 ![0, 1] bcast_S1x1024_S16384x1024_0_1),
    StableHlo.TRef.binary (.of main_call2_v2 : TRef sig ⟨S16384x1024, .i32⟩) (.of main_call2_v3 : TRef sig ⟨S16384x1024, .i32⟩) (.of main_call2_v4 : TRef sig ⟨S16384x1024, .i1⟩) (cmpi .eq),
    StableHlo.TRef.unary (.of main_call2_v4 : TRef sig ⟨S16384x1024, .i1⟩) (.of main_v31 : TRef sig ⟨S16384x1024, .f32⟩) (uitofp .f32) ]

/-- The operations that make the perplexity, in order. -/
abbrev perpOps : List (HloOp τ sig (Elt F)) :=
  [ StableHlo.nullary main_cst_8 (constant S_ .f32 0x00000000#32),
    StableHlo.binary main_v31 main_cst_8 main_v32 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_9 (constant S_ .f32 0x46800000#32),
    StableHlo.unary main_cst_9 main_v33 (broadcastInDim S1024 ![] bcast_S_S1024 : (⟨S_, .f32⟩ : BufTy).Contents (Elt F) → (⟨S1024, .f32⟩ : BufTy).Contents (Elt F)),
    StableHlo.binary main_v32 main_v33 main_v34 (Host.divf : (⟨S1024, .f32⟩ : BufTy).Contents (Elt F) → (⟨S1024, .f32⟩ : BufTy).Contents (Elt F) → (⟨S1024, .f32⟩ : BufTy).Contents (Elt F)),
    StableHlo.nullary main_cst_10 (constant S_ .f32 0x2EDBE6FF#32),
    StableHlo.unary main_cst_10 main_v35 (broadcastInDim S1024 ![] bcast_S_S1024 : (⟨S_, .f32⟩ : BufTy).Contents (Elt F) → (⟨S1024, .f32⟩ : BufTy).Contents (Elt F)),
    StableHlo.binary main_v34 main_v35 main_v36 (addf : (⟨S1024, .f32⟩ : BufTy).Contents (Elt F) → (⟨S1024, .f32⟩ : BufTy).Contents (Elt F) → (⟨S1024, .f32⟩ : BufTy).Contents (Elt F)),
    StableHlo.unary main_v36 main_v37 (Host.log : (⟨S1024, .f32⟩ : BufTy).Contents (Elt F) → (⟨S1024, .f32⟩ : BufTy).Contents (Elt F)),
    StableHlo.binary main_v34 main_v37 main_v38 (mulf : (⟨S1024, .f32⟩ : BufTy).Contents (Elt F) → (⟨S1024, .f32⟩ : BufTy).Contents (Elt F) → (⟨S1024, .f32⟩ : BufTy).Contents (Elt F)),
    StableHlo.nullary main_cst_11 (constant S_ .f32 0x00000000#32),
    StableHlo.binary main_v38 main_cst_11 main_v39 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    StableHlo.unary main_v39 main_v40 (Host.negf : (⟨S_, .f32⟩ : BufTy).Contents (Elt F) → (⟨S_, .f32⟩ : BufTy).Contents (Elt F)),
    StableHlo.unary main_v40 main_v41 (Host.exp : (⟨S_, .f32⟩ : BufTy).Contents (Elt F) → (⟨S_, .f32⟩ : BufTy).Contents (Elt F)) ]

/-- All of them. -/
abbrev ops : List (HloOp τ sig (Elt F)) :=
  [ StableHlo.binary main_arg0 main_arg0 main_v0 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v1 main_v2 (broadcastInDim S16384x1 ![0] bcast_S16384_S16384x1_0 : (⟨S16384, .f32⟩ : BufTy).Contents (Elt F) → (⟨S16384x1, .f32⟩ : BufTy).Contents (Elt F)),
    StableHlo.binary main_arg1 main_arg1 main_v3 (mulf : (⟨S1024x64, .f32⟩ : BufTy).Contents (Elt F) → (⟨S1024x64, .f32⟩ : BufTy).Contents (Elt F) → (⟨S1024x64, .f32⟩ : BufTy).Contents (Elt F)),
    StableHlo.nullary main_cst_0 (constant S_ .f32 0x00000000#32),
    StableHlo.binary main_v3 main_cst_0 main_v4 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_arg1 main_v5 ((transpose S64x1024 [1, 0] · transposes_S1024x64_S64x1024_1_0) : (⟨S1024x64, .f32⟩ : BufTy).Contents (Elt F) → (⟨S64x1024, .f32⟩ : BufTy).Contents (Elt F)),
    StableHlo.binary main_arg0 main_v5 main_v6 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    StableHlo.nullary main_cst_1 (constant S_ .f32 0x40000000#32),
    StableHlo.unary main_cst_1 main_v7 (broadcastInDim S16384x1024 ![] bcast_S_S16384x1024 : (⟨S_, .f32⟩ : BufTy).Contents (Elt F) → (⟨S16384x1024, .f32⟩ : BufTy).Contents (Elt F)),
    StableHlo.binary main_v7 main_v6 main_v8 (mulf : (⟨S16384x1024, .f32⟩ : BufTy).Contents (Elt F) → (⟨S16384x1024, .f32⟩ : BufTy).Contents (Elt F) → (⟨S16384x1024, .f32⟩ : BufTy).Contents (Elt F)),
    StableHlo.unary main_v2 main_v9 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v9 main_v8 main_v10 (subf : (⟨S16384x1024, .f32⟩ : BufTy).Contents (Elt F) → (⟨S16384x1024, .f32⟩ : BufTy).Contents (Elt F) → (⟨S16384x1024, .f32⟩ : BufTy).Contents (Elt F)),
    StableHlo.unary main_v4 main_v11 (broadcastInDim S1x1024 ![1] bcast_S1024_S1x1024_1 : (⟨S1024, .f32⟩ : BufTy).Contents (Elt F) → (⟨S1x1024, .f32⟩ : BufTy).Contents (Elt F)),
    StableHlo.unary main_v11 main_v12 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v10 main_v12 main_v13 (addf : (⟨S16384x1024, .f32⟩ : BufTy).Contents (Elt F) → (⟨S16384x1024, .f32⟩ : BufTy).Contents (Elt F) → (⟨S16384x1024, .f32⟩ : BufTy).Contents (Elt F)),
    StableHlo.nullary main_cst_2 (constant S_ .f32 0x00000000#32),
    StableHlo.unary main_cst_2 main_v14 (broadcastInDim S16384x1024 ![] bcast_S_S16384x1024 : (⟨S_, .f32⟩ : BufTy).Contents (Elt F) → (⟨S16384x1024, .f32⟩ : BufTy).Contents (Elt F)),
    StableHlo.binary main_v13 main_v14 main_v15 (maximumf : (⟨S16384x1024, .f32⟩ : BufTy).Contents (Elt F) → (⟨S16384x1024, .f32⟩ : BufTy).Contents (Elt F) → (⟨S16384x1024, .f32⟩ : BufTy).Contents (Elt F)),
    StableHlo.unary main_v15 main_v16 (Host.sqrt : (⟨S16384x1024, .f32⟩ : BufTy).Contents (Elt F) → (⟨S16384x1024, .f32⟩ : BufTy).Contents (Elt F)),
    StableHlo.TRef.nullary (.of main_call0_v0 : TRef sig ⟨S16384x1024, .i32⟩) (iotaInDim S16384x1024 32 1),
    StableHlo.TRef.nullary (.of main_call0_cst : TRef sig ⟨S_, .f32⟩) (constant S_ .f32 0x7F800000#32),
    StableHlo.TRef.nullary (.of main_call0_c : TRef sig ⟨S_, .i32⟩) (constantI S_ 32 0#32),
    StableHlo.TRef.quaternary (.of main_v16 : TRef sig ⟨S16384x1024, .f32⟩) (.of main_call0_v0 : TRef sig ⟨S16384x1024, .i32⟩) (.of main_call0_cst : TRef sig ⟨S_, .f32⟩) (.of main_call0_c : TRef sig ⟨S_, .i32⟩) (.of main_call0_v1_0 : TRef sig ⟨S16384, .f32⟩) (fun x y u v j => (Host.argReduce reducer_argmin_f32_i32 x y u v reducesTo_S16384x1024_S16384_d1 h_S_ j).1),
    StableHlo.TRef.quaternary (.of main_v16 : TRef sig ⟨S16384x1024, .f32⟩) (.of main_call0_v0 : TRef sig ⟨S16384x1024, .i32⟩) (.of main_call0_cst : TRef sig ⟨S_, .f32⟩) (.of main_call0_c : TRef sig ⟨S_, .i32⟩) (.of main_v17 : TRef sig ⟨S16384, .i32⟩) (fun x y u v j => (Host.argReduce reducer_argmin_f32_i32 x y u v reducesTo_S16384x1024_S16384_d1 h_S_ j).2),
    StableHlo.TRef.nullary (.of main_call1_c : TRef sig ⟨S_, .i32⟩) (constantI S_ 32 0#32),
    StableHlo.TRef.unary (.of main_call1_c : TRef sig ⟨S_, .i32⟩) (.of main_call1_v0 : TRef sig ⟨S16384, .i32⟩) (broadcastInDim S16384 ![] bcast_S_S16384),
    StableHlo.TRef.binary (.of main_v17 : TRef sig ⟨S16384, .i32⟩) (.of main_call1_v0 : TRef sig ⟨S16384, .i32⟩) (.of main_call1_v1 : TRef sig ⟨S16384, .i1⟩) (cmpi .slt),
    StableHlo.TRef.nullary (.of main_call1_c_0 : TRef sig ⟨S_, .i32⟩) (constantI S_ 32 1024#32),
    StableHlo.TRef.unary (.of main_call1_c_0 : TRef sig ⟨S_, .i32⟩) (.of main_call1_v2 : TRef sig ⟨S16384, .i32⟩) (broadcastInDim S16384 ![] bcast_S_S16384),
    StableHlo.TRef.binary (.of main_v17 : TRef sig ⟨S16384, .i32⟩) (.of main_call1_v2 : TRef sig ⟨S16384, .i32⟩) (.of main_call1_v3 : TRef sig ⟨S16384, .i32⟩) addi,
    StableHlo.TRef.ternary (.of main_call1_v1 : TRef sig ⟨S16384, .i1⟩) (.of main_call1_v3 : TRef sig ⟨S16384, .i32⟩) (.of main_v17 : TRef sig ⟨S16384, .i32⟩) (.of main_call1_v4 : TRef sig ⟨S16384, .i32⟩) select,
    StableHlo.TRef.unary (.of main_call1_v4 : TRef sig ⟨S16384, .i32⟩) (.of main_call1_v5 : TRef sig ⟨S16384x1, .i32⟩) (broadcastInDim S16384x1 ![0] bcast_S16384_S16384x1_0),
    StableHlo.TRef.nullary (.of main_call1_c_1 : TRef sig ⟨S1, .i32⟩) (constantI S1 32 1023#32),
    StableHlo.TRef.nullary (.of main_call1_c_2 : TRef sig ⟨S_, .i32⟩) (constantI S_ 32 0#32),
    StableHlo.TRef.unary (.of main_call1_c_2 : TRef sig ⟨S_, .i32⟩) (.of main_call1_v6 : TRef sig ⟨S16384x1, .i32⟩) (broadcastInDim S16384x1 ![] bcast_S_S16384x1),
    StableHlo.TRef.binary (.of main_call1_v5 : TRef sig ⟨S16384x1, .i32⟩) (.of main_call1_v6 : TRef sig ⟨S16384x1, .i32⟩) (.of main_call1_v7 : TRef sig ⟨S16384x1, .i1⟩) (cmpi .sge),
    StableHlo.TRef.unary (.of main_call1_c_1 : TRef sig ⟨S1, .i32⟩) (.of main_call1_v8 : TRef sig ⟨S1x1, .i32⟩) (broadcastInDim S1x1 ![1] bcast_S1_S1x1_1),
    StableHlo.TRef.unary (.of main_call1_v8 : TRef sig ⟨S1x1, .i32⟩) (.of main_call1_v9 : TRef sig ⟨S16384x1, .i32⟩) (broadcastInDim S16384x1 ![0, 1] bcast_S1x1_S16384x1_0_1),
    StableHlo.TRef.binary (.of main_call1_v5 : TRef sig ⟨S16384x1, .i32⟩) (.of main_call1_v9 : TRef sig ⟨S16384x1, .i32⟩) (.of main_call1_v10 : TRef sig ⟨S16384x1, .i1⟩) (cmpi .sle),
    StableHlo.TRef.binary (.of main_call1_v7 : TRef sig ⟨S16384x1, .i1⟩) (.of main_call1_v10 : TRef sig ⟨S16384x1, .i1⟩) (.of main_call1_v11 : TRef sig ⟨S16384x1, .i1⟩) andi,
    StableHlo.TRef.nullary (.of main_call1_c_3 : TRef sig ⟨S_, .i1⟩) (constantI S_ 1 1#1),
    StableHlo.TRef.binary (.of main_call1_v11 : TRef sig ⟨S16384x1, .i1⟩) (.of main_call1_c_3 : TRef sig ⟨S_, .i1⟩) (.of main_call1_v12 : TRef sig ⟨S16384, .i1⟩) (fun x v => Host.reduce IntOp.andi x v reducesTo_S16384x1_S16384_d1 h_S_),
    StableHlo.TRef.binary (.of main_arg1 : TRef sig ⟨S1024x64, .f32⟩) (.of main_call1_v5 : TRef sig ⟨S16384x1, .i32⟩) (.of main_call1_v13 : TRef sig ⟨S16384x64, .f32⟩) (fun x i => Host.gather gather_S1024x64_S16384x1_S16384x64_1_0_n_n_0_1_164 x i),
    StableHlo.TRef.unary (.of main_call1_v12 : TRef sig ⟨S16384, .i1⟩) (.of main_call1_v14 : TRef sig ⟨S16384x64, .i1⟩) (broadcastInDim S16384x64 ![0] bcast_S16384_S16384x64_0),
    StableHlo.TRef.nullary (.of main_call1_cst : TRef sig ⟨S_, .f32⟩) (constant S_ .f32 0x7FC00000#32),
    StableHlo.TRef.unary (.of main_call1_cst : TRef sig ⟨S_, .f32⟩) (.of main_call1_v15 : TRef sig ⟨S16384x64, .f32⟩) (broadcastInDim S16384x64 ![] bcast_S_S16384x64),
    StableHlo.TRef.ternary (.of main_call1_v14 : TRef sig ⟨S16384x64, .i1⟩) (.of main_call1_v13 : TRef sig ⟨S16384x64, .f32⟩) (.of main_call1_v15 : TRef sig ⟨S16384x64, .f32⟩) (.of main_v18 : TRef sig ⟨S16384x64, .f32⟩) select,
    StableHlo.binary main_v18 main_arg0 main_v19 (subf : (⟨S16384x64, .f32⟩ : BufTy).Contents (Elt F) → (⟨S16384x64, .f32⟩ : BufTy).Contents (Elt F) → (⟨S16384x64, .f32⟩ : BufTy).Contents (Elt F)),
    StableHlo.binary main_v19 main_v19 main_v20 (mulf : (⟨S16384x64, .f32⟩ : BufTy).Contents (Elt F) → (⟨S16384x64, .f32⟩ : BufTy).Contents (Elt F) → (⟨S16384x64, .f32⟩ : BufTy).Contents (Elt F)),
    StableHlo.nullary main_cst_3 (constant S_ .f32 0x00000000#32),
    StableHlo.binary main_v20 main_cst_3 main_v21 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    StableHlo.nullary main_cst_4 (constant S_ .f32 0x49800000#32),
    StableHlo.binary main_v21 main_cst_4 main_v22 (Host.divf : (⟨S_, .f32⟩ : BufTy).Contents (Elt F) → (⟨S_, .f32⟩ : BufTy).Contents (Elt F) → (⟨S_, .f32⟩ : BufTy).Contents (Elt F)),
    StableHlo.binary main_v18 main_arg0 main_v23 (subf : (⟨S16384x64, .f32⟩ : BufTy).Contents (Elt F) → (⟨S16384x64, .f32⟩ : BufTy).Contents (Elt F) → (⟨S16384x64, .f32⟩ : BufTy).Contents (Elt F)),
    StableHlo.binary main_v23 main_v23 main_v24 (mulf : (⟨S16384x64, .f32⟩ : BufTy).Contents (Elt F) → (⟨S16384x64, .f32⟩ : BufTy).Contents (Elt F) → (⟨S16384x64, .f32⟩ : BufTy).Contents (Elt F)),
    StableHlo.nullary main_cst_5 (constant S_ .f32 0x00000000#32),
    StableHlo.binary main_v24 main_cst_5 main_v25 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    StableHlo.nullary main_cst_6 (constant S_ .f32 0x49800000#32),
    StableHlo.binary main_v25 main_cst_6 main_v26 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x3E800000#32),
    StableHlo.binary main_cst_7 main_v22 main_v27 (mulf : (⟨S_, .f32⟩ : BufTy).Contents (Elt F) → (⟨S_, .f32⟩ : BufTy).Contents (Elt F) → (⟨S_, .f32⟩ : BufTy).Contents (Elt F)),
    StableHlo.binary main_v26 main_v27 main_v28 (addf : (⟨S_, .f32⟩ : BufTy).Contents (Elt F) → (⟨S_, .f32⟩ : BufTy).Contents (Elt F) → (⟨S_, .f32⟩ : BufTy).Contents (Elt F)),
    StableHlo.binary main_v18 main_arg0 main_v29 (subf : (⟨S16384x64, .f32⟩ : BufTy).Contents (Elt F) → (⟨S16384x64, .f32⟩ : BufTy).Contents (Elt F) → (⟨S16384x64, .f32⟩ : BufTy).Contents (Elt F)),
    StableHlo.binary main_arg0 main_v29 main_v30 (addf : (⟨S16384x64, .f32⟩ : BufTy).Contents (Elt F) → (⟨S16384x64, .f32⟩ : BufTy).Contents (Elt F) → (⟨S16384x64, .f32⟩ : BufTy).Contents (Elt F)),
    StableHlo.TRef.unary (.of main_v17 : TRef sig ⟨S16384, .i32⟩) (.of main_call2_v0 : TRef sig ⟨S16384x1, .i32⟩) (broadcastInDim S16384x1 ![0] bcast_S16384_S16384x1_0),
    StableHlo.TRef.nullary (.of main_call2_v1 : TRef sig ⟨S1x1024, .i32⟩) (iotaInDim S1x1024 32 1),
    StableHlo.TRef.unary (.of main_call2_v0 : TRef sig ⟨S16384x1, .i32⟩) (.of main_call2_v2 : TRef sig ⟨S16384x1024, .i32⟩) (broadcastInDim S16384x1024 ![0, 1] bcast_S16384x1_S16384x1024_0_1),
    StableHlo.TRef.unary (.of main_call2_v1 : TRef sig ⟨S1x1024, .i32⟩) (.of main_call2_v3 : TRef sig ⟨S16384x1024, .i32⟩) (broadcastInDim S16384x1024 ![0, 1] bcast_S1x1024_S16384x1024_0_1),
    StableHlo.TRef.binary (.of main_call2_v2 : TRef sig ⟨S16384x1024, .i32⟩) (.of main_call2_v3 : TRef sig ⟨S16384x1024, .i32⟩) (.of main_call2_v4 : TRef sig ⟨S16384x1024, .i1⟩) (cmpi .eq),
    StableHlo.TRef.unary (.of main_call2_v4 : TRef sig ⟨S16384x1024, .i1⟩) (.of main_v31 : TRef sig ⟨S16384x1024, .f32⟩) (uitofp .f32),
    StableHlo.nullary main_cst_8 (constant S_ .f32 0x00000000#32),
    StableHlo.binary main_v31 main_cst_8 main_v32 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_9 (constant S_ .f32 0x46800000#32),
    StableHlo.unary main_cst_9 main_v33 (broadcastInDim S1024 ![] bcast_S_S1024 : (⟨S_, .f32⟩ : BufTy).Contents (Elt F) → (⟨S1024, .f32⟩ : BufTy).Contents (Elt F)),
    StableHlo.binary main_v32 main_v33 main_v34 (Host.divf : (⟨S1024, .f32⟩ : BufTy).Contents (Elt F) → (⟨S1024, .f32⟩ : BufTy).Contents (Elt F) → (⟨S1024, .f32⟩ : BufTy).Contents (Elt F)),
    StableHlo.nullary main_cst_10 (constant S_ .f32 0x2EDBE6FF#32),
    StableHlo.unary main_cst_10 main_v35 (broadcastInDim S1024 ![] bcast_S_S1024 : (⟨S_, .f32⟩ : BufTy).Contents (Elt F) → (⟨S1024, .f32⟩ : BufTy).Contents (Elt F)),
    StableHlo.binary main_v34 main_v35 main_v36 (addf : (⟨S1024, .f32⟩ : BufTy).Contents (Elt F) → (⟨S1024, .f32⟩ : BufTy).Contents (Elt F) → (⟨S1024, .f32⟩ : BufTy).Contents (Elt F)),
    StableHlo.unary main_v36 main_v37 (Host.log : (⟨S1024, .f32⟩ : BufTy).Contents (Elt F) → (⟨S1024, .f32⟩ : BufTy).Contents (Elt F)),
    StableHlo.binary main_v34 main_v37 main_v38 (mulf : (⟨S1024, .f32⟩ : BufTy).Contents (Elt F) → (⟨S1024, .f32⟩ : BufTy).Contents (Elt F) → (⟨S1024, .f32⟩ : BufTy).Contents (Elt F)),
    StableHlo.nullary main_cst_11 (constant S_ .f32 0x00000000#32),
    StableHlo.binary main_v38 main_cst_11 main_v39 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    StableHlo.unary main_v39 main_v40 (Host.negf : (⟨S_, .f32⟩ : BufTy).Contents (Elt F) → (⟨S_, .f32⟩ : BufTy).Contents (Elt F)),
    StableHlo.unary main_v40 main_v41 (Host.exp : (⟨S_, .f32⟩ : BufTy).Contents (Elt F) → (⟨S_, .f32⟩ : BufTy).Contents (Elt F)) ]

theorem ops_split : (ops : List (HloOp τ sig (Elt F))) = distOps ++ (argOps ++ (takeOps ++ (midOps ++ (hotOps ++ perpOps)))) := rfl

theorem main_eq (c : Dev nD) : main (F := F) c = seq ops := rfl

theorem after_app (l l' : List (HloOp τ sig (Elt F))) (V : Valuation τ sig (Elt F)) :
    after (l ++ l') V = after l' (after l V) := by
  induction l generalizing V with
  | nil => rfl
  | cons op l ih => exact ih _

/-- The squared distances, negative ones taken as zero. -/
def sq (x : FVec F S16384x64 .f32) (c : FVec F S1024x64 .f32) : FVec F S16384x1024 .f32 :=
  maximumf
    (addf
      (subf
        (broadcastInDim S16384x1024 ![0, 1] bcast_S16384x1_S16384x1024_0_1
          (broadcastInDim S16384x1 ![0] bcast_S16384_S16384x1_0
            (Host.reduceAdd (mulf x x) (constant S_ .f32 0x00000000#32) reducesTo_S16384x64_S16384_d1 h_S_)))
        (mulf (broadcastInDim S16384x1024 ![] bcast_S_S16384x1024 (constant S_ .f32 0x40000000#32))
          (Host.dotGeneral dot_S16384x64_S64x1024_S16384x1024_1_0_0_1_n_n none x
            (transpose S64x1024 [1, 0] c transposes_S1024x64_S64x1024_1_0))))
      (broadcastInDim S16384x1024 ![0, 1] bcast_S1x1024_S16384x1024_0_1
        (broadcastInDim S1x1024 ![1] bcast_S1024_S1x1024_1
          (Host.reduceAdd (mulf c c) (constant S_ .f32 0x00000000#32) reducesTo_S1024x64_S1024_d1 h_S_))))
    (broadcastInDim S16384x1024 ![] bcast_S_S16384x1024 (constant S_ .f32 0x00000000#32))

/-- The number of the nearest row, of each point. -/
def arg (d : FVec F S16384x1024 .f32) : IVec S16384 32 := fun j =>
  (Host.argReduce reducer_argmin_f32_i32 d (iotaInDim S16384x1024 32 1) (constant S_ .f32 0x7F800000#32)
    (constantI S_ 32 0#32) reducesTo_S16384x1024_S16384_d1 h_S_ j).2

/-- The numbers that the taking reads rows at, as one column. -/
def takeCol (ix : IVec S16384 32) : IVec S16384x1 32 :=
  broadcastInDim S16384x1 ![0] bcast_S16384_S16384x1_0
    (select (cmpi .slt ix (broadcastInDim S16384 ![] bcast_S_S16384 (constantI S_ 32 0#32)))
      (addi ix (broadcastInDim S16384 ![] bcast_S_S16384 (constantI S_ 32 1024#32))) ix)

/-- Which of them number a row. -/
def takeOk (ix : IVec S16384 32) : IVec S16384 1 :=
  Host.reduce IntOp.andi
    (andi (cmpi .sge (takeCol ix) (broadcastInDim S16384x1 ![] bcast_S_S16384x1 (constantI S_ 32 0#32)))
      (cmpi .sle (takeCol ix) (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The rows taken. -/
def take (c : FVec F S1024x64 .f32) (ix : IVec S16384 32) : FVec F S16384x64 .f32 :=
  select (broadcastInDim S16384x64 ![0] bcast_S16384_S16384x64_0 (takeOk ix))
    (Host.gather gather_S1024x64_S16384x1_S16384x64_1_0_n_n_0_1_164 c (takeCol ix))
    (broadcastInDim S16384x64 ![] bcast_S_S16384x64 (constant S_ .f32 0x7FC00000#32))

/-- The mean squared difference of two arrays. -/
def mse (q x : FVec F S16384x64 .f32) : FVec F S_ .f32 :=
  Host.divf (Host.reduceAdd (mulf (subf q x) (subf q x)) (constant S_ .f32 0x00000000#32) reducesTo_S16384x64_S_d0_1 h_S_)
    (constant S_ .f32 0x49800000#32)

/-- The loss. -/
def loss (q x : FVec F S16384x64 .f32) : FVec F S_ .f32 :=
  addf (mse q x) (mulf (constant S_ .f32 0x3E800000#32) (mse q x))

/-- The one-hot rows of the numbers. -/
def hot (ix : IVec S16384 32) : FVec F S16384x1024 .f32 :=
  uitofp .f32 (cmpi .eq
    (broadcastInDim S16384x1024 ![0, 1] bcast_S16384x1_S16384x1024_0_1 (broadcastInDim S16384x1 ![0] bcast_S16384_S16384x1_0 ix))
    (broadcastInDim S16384x1024 ![0, 1] bcast_S1x1024_S16384x1024_0_1 (iotaInDim S1x1024 32 1)))

/-- Their mean over the points. -/
def prob (h : FVec F S16384x1024 .f32) : FVec F S1024 .f32 :=
  Host.divf (Host.reduceAdd h (constant S_ .f32 0x00000000#32) reducesTo_S16384x1024_S1024_d0 h_S_)
    (broadcastInDim S1024 ![] bcast_S_S1024 (constant S_ .f32 0x46800000#32))

/-- The perplexity. -/
def perp (p : FVec F S1024 .f32) : FVec F S_ .f32 :=
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

/-! ### Each stretch, at what it makes -/

theorem dist_v16 (V : Valuation τ sig (Elt F)) : after distOps V (main_v16 : DevRef τ sig)
    = Host.sqrt (sq (V (main_arg0 : DevRef τ sig)) (V (main_arg1 : DevRef τ sig))) := by
  after_results; rfl
theorem dist_arg0 (V : Valuation τ sig (Elt F)) : after distOps V (main_arg0 : DevRef τ sig) = V (main_arg0 : DevRef τ sig) := by
  after_results
theorem dist_arg1 (V : Valuation τ sig (Elt F)) : after distOps V (main_arg1 : DevRef τ sig) = V (main_arg1 : DevRef τ sig) := by
  after_results

theorem arg_v17 (V : Valuation τ sig (Elt F)) : after argOps V (main_v17 : DevRef τ sig)
    = arg (V (main_v16 : DevRef τ sig)) := by
  after_results; rfl
theorem arg_arg0 (V : Valuation τ sig (Elt F)) : after argOps V (main_arg0 : DevRef τ sig) = V (main_arg0 : DevRef τ sig) := by
  after_results
theorem arg_arg1 (V : Valuation τ sig (Elt F)) : after argOps V (main_arg1 : DevRef τ sig) = V (main_arg1 : DevRef τ sig) := by
  after_results

theorem take_v18 (V : Valuation τ sig (Elt F)) : after takeOps V (main_v18 : DevRef τ sig)
    = take (V (main_arg1 : DevRef τ sig)) (V (main_v17 : DevRef τ sig)) := by
  after_results
  simp only [TRef.ofBuf, TRef.toBuf, cast_eq]
  unfold take takeOk takeCol
  rfl
theorem take_v17 (V : Valuation τ sig (Elt F)) : after takeOps V (main_v17 : DevRef τ sig) = V (main_v17 : DevRef τ sig) := by
  after_results
theorem take_arg0 (V : Valuation τ sig (Elt F)) : after takeOps V (main_arg0 : DevRef τ sig) = V (main_arg0 : DevRef τ sig) := by
  after_results
theorem take_arg1 (V : Valuation τ sig (Elt F)) : after takeOps V (main_arg1 : DevRef τ sig) = V (main_arg1 : DevRef τ sig) := by
  after_results

theorem mid_v28 (V : Valuation τ sig (Elt F)) : after midOps V (main_v28 : DevRef τ sig)
    = loss (V (main_v18 : DevRef τ sig)) (V (main_arg0 : DevRef τ sig)) := by
  after_results; rfl
theorem mid_v30 (V : Valuation τ sig (Elt F)) : after midOps V (main_v30 : DevRef τ sig)
    = addf (V (main_arg0 : DevRef τ sig)) (subf (V (main_v18 : DevRef τ sig)) (V (main_arg0 : DevRef τ sig))) := by
  after_results; try rfl
theorem mid_v17 (V : Valuation τ sig (Elt F)) : after midOps V (main_v17 : DevRef τ sig) = V (main_v17 : DevRef τ sig) := by
  after_results
theorem mid_arg0 (V : Valuation τ sig (Elt F)) : after midOps V (main_arg0 : DevRef τ sig) = V (main_arg0 : DevRef τ sig) := by
  after_results
theorem mid_arg1 (V : Valuation τ sig (Elt F)) : after midOps V (main_arg1 : DevRef τ sig) = V (main_arg1 : DevRef τ sig) := by
  after_results

theorem hot_v31 (V : Valuation τ sig (Elt F)) : after hotOps V (main_v31 : DevRef τ sig)
    = hot (V (main_v17 : DevRef τ sig)) := by
  after_results; rfl
theorem hot_v28 (V : Valuation τ sig (Elt F)) : after hotOps V (main_v28 : DevRef τ sig) = V (main_v28 : DevRef τ sig) := by
  after_results
theorem hot_v30 (V : Valuation τ sig (Elt F)) : after hotOps V (main_v30 : DevRef τ sig) = V (main_v30 : DevRef τ sig) := by
  after_results
theorem hot_arg0 (V : Valuation τ sig (Elt F)) : after hotOps V (main_arg0 : DevRef τ sig) = V (main_arg0 : DevRef τ sig) := by
  after_results
theorem hot_arg1 (V : Valuation τ sig (Elt F)) : after hotOps V (main_arg1 : DevRef τ sig) = V (main_arg1 : DevRef τ sig) := by
  after_results

theorem perp_v41 (V : Valuation τ sig (Elt F)) : after perpOps V (main_v41 : DevRef τ sig)
    = perp (prob (V (main_v31 : DevRef τ sig))) := by
  after_results; rfl
theorem perp_v28 (V : Valuation τ sig (Elt F)) : after perpOps V (main_v28 : DevRef τ sig) = V (main_v28 : DevRef τ sig) := by
  after_results
theorem perp_v30 (V : Valuation τ sig (Elt F)) : after perpOps V (main_v30 : DevRef τ sig) = V (main_v30 : DevRef τ sig) := by
  after_results
theorem perp_arg0 (V : Valuation τ sig (Elt F)) : after perpOps V (main_arg0 : DevRef τ sig) = V (main_arg0 : DevRef τ sig) := by
  after_results
theorem perp_arg1 (V : Valuation τ sig (Elt F)) : after perpOps V (main_arg1 : DevRef τ sig) = V (main_arg1 : DevRef τ sig) := by
  after_results

/-! ### The whole line -/

/-- The number of each point's nearest row. -/
def idx (x : FVec F S16384x64 .f32) (c : FVec F S1024x64 .f32) : IVec S16384 32 := arg (Host.sqrt (sq x c))

theorem ops_v28 (V : Valuation τ sig (Elt F)) : after ops V (main_v28 : DevRef τ sig)
    = loss (take (V (main_arg1 : DevRef τ sig)) (idx (V (main_arg0 : DevRef τ sig)) (V (main_arg1 : DevRef τ sig))))
        (V (main_arg0 : DevRef τ sig)) := by
  rw [ops_split, after_app, after_app, after_app, after_app, after_app, perp_v28, hot_v28, mid_v28, take_v18, take_arg0,
    arg_v17, arg_arg0, arg_arg1, dist_v16, dist_arg0, dist_arg1]
  rfl

theorem ops_v30 (V : Valuation τ sig (Elt F)) : after ops V (main_v30 : DevRef τ sig)
    = addf (V (main_arg0 : DevRef τ sig))
        (subf (take (V (main_arg1 : DevRef τ sig)) (idx (V (main_arg0 : DevRef τ sig)) (V (main_arg1 : DevRef τ sig))))
          (V (main_arg0 : DevRef τ sig))) := by
  rw [ops_split, after_app, after_app, after_app, after_app, after_app, perp_v30, hot_v30, mid_v30, take_v18, take_arg0,
    arg_v17, arg_arg0, arg_arg1, dist_v16, dist_arg0, dist_arg1]
  rfl

theorem ops_v41 (V : Valuation τ sig (Elt F)) : after ops V (main_v41 : DevRef τ sig)
    = perp (prob (hot (idx (V (main_arg0 : DevRef τ sig)) (V (main_arg1 : DevRef τ sig))))) := by
  rw [ops_split, after_app, after_app, after_app, after_app, after_app, perp_v41, hot_v31, mid_v17, take_v17, arg_v17, dist_v16]
  rfl

theorem ops_arg0 (V : Valuation τ sig (Elt F)) : after ops V (main_arg0 : DevRef τ sig) = V (main_arg0 : DevRef τ sig) := by
  rw [ops_split, after_app, after_app, after_app, after_app, after_app, perp_arg0, hot_arg0, mid_arg0, take_arg0, arg_arg0,
    dist_arg0]

theorem ops_arg1 (V : Valuation τ sig (Elt F)) : after ops V (main_arg1 : DevRef τ sig) = V (main_arg1 : DevRef τ sig) := by
  rw [ops_split, after_app, after_app, after_app, after_app, after_app, perp_arg1, hot_arg1, mid_arg1, take_arg1, arg_arg1,
    dist_arg1]

theorem scopedRefs_none : (Finset.univ.filter fun b : Ref sig .tc => b.isScoped) = ∅ := by decide
theorem scopedSems_none : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

/-- The reference's run: its results at their values, its arguments as they were, its counters zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v28)
            = loss (take (m ((c.tc : Thread nD τ).loc main_arg1))
                (idx (m ((c.tc : Thread nD τ).loc main_arg0)) (m ((c.tc : Thread nD τ).loc main_arg1))))
                (m ((c.tc : Thread nD τ).loc main_arg0))
          ∧ r.2.mem ((c.tc : Thread nD τ).loc main_v30)
            = addf (m ((c.tc : Thread nD τ).loc main_arg0))
                (subf (take (m ((c.tc : Thread nD τ).loc main_arg1))
                  (idx (m ((c.tc : Thread nD τ).loc main_arg0)) (m ((c.tc : Thread nD τ).loc main_arg1))))
                  (m ((c.tc : Thread nD τ).loc main_arg0)))
          ∧ r.2.mem ((c.tc : Thread nD τ).loc main_v41)
            = perp (prob (hot (idx (m ((c.tc : Thread nD τ).loc main_arg0)) (m ((c.tc : Thread nD τ).loc main_arg1)))))
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ r.2.sem = fun _ => 0 :=
  (θ_run defs _ _).mono (fun r h => ⟨fun c => ⟨(h c main_v28).trans (ops_v28 _), (h c main_v30).trans (ops_v30 _),
      (h c main_v41).trans (ops_v41 _), (h c main_arg0).trans (ops_arg0 _), (h c main_arg1).trans (ops_arg1 _)⟩,
      sem_eq_zero_of_no_sems (by decide) r.2⟩)
    (run_seq scopedRefs_none scopedSems_none defs main (fun _ => ops) main_eq (fun _ => ops_sub) m ρ)

end Cert.Proof.Ref

end
-- ==== Proof.Arg.lean ====
/-
  The nearest code of a row of distances: the first of the smallest ones. The kernel finds it as the least column that
  attains the row's minimum, the reference as a fold over (distance, column) pairs; both are the one number `IsArg` names.
-/
module

public import proofs.«01_k».proof.Proof.KernValue
public import proofs.«01_k».proof.Proof.RefRun

@[expose] public section

set_option maxRecDepth 16384

noncomputable section

namespace Cert.Proof

open Idealize.ShloMosaic
open Cert.KernelIdeal Cert.KernelIdeal.Gen
open Cert.Proof.Kern

/-- `v` is the first column at which the row `E` is smallest. -/
def IsArg (E : Fin 1024 → EReal) (v : BitVec 32) : Prop :=
  ∃ i : Fin 1024, v = BitVec.ofNat 32 i.val ∧ (∀ k, E i ≤ E k) ∧ ∀ k, k < i → E i < E k

theorem IsArg.unique {E : Fin 1024 → EReal} {v w : BitVec 32} (hv : IsArg E v) (hw : IsArg E w) : v = w := by
  obtain ⟨i, rfl, hi, hi'⟩ := hv
  obtain ⟨j, rfl, hj, hj'⟩ := hw
  rcases lt_trichotomy i j with h | h | h
  · exact absurd (hj' i h) (not_lt.2 (hi j))
  · rw [h]
  · exact absurd (hi' j h) (not_lt.2 (hj i))

theorem IsArg.lt {E : Fin 1024 → EReal} {v : BitVec 32} (hv : IsArg E v) : v.toNat < 1024 := by
  obtain ⟨i, rfl, -, -⟩ := hv
  rw [BitVec.toNat_ofNat]; exact lt_of_le_of_lt (Nat.mod_le _ _) i.isLt

theorem toInt_small (k : ℕ) (h : k ≤ 1024) : (BitVec.ofNat 32 k).toInt = k := by
  rw [BitVec.toInt_eq_toNat_of_lt] <;> rw [BitVec.toNat_ofNat, Nat.mod_eq_of_lt (by omega)]; omega

/-! ## The kernel's search -/

theorem fold_minsi {ι : Type} [DecidableEq ι] (f : ι → BitVec 32) (b : BitVec 32) (s : Finset ι) :
    (s.fold IntOp.minsi b f = b ∨ ∃ k ∈ s, s.fold IntOp.minsi b f = f k) ∧ ∀ k ∈ s, (s.fold IntOp.minsi b f).toInt ≤ (f k).toInt := by
  induction s using Finset.induction_on with
  | empty => exact ⟨.inl rfl, fun k hk => absurd hk (Finset.notMem_empty k)⟩
  | insert a s ha ih =>
    rw [Finset.fold_insert ha]
    generalize hp : s.fold IntOp.minsi b f = p at ih
    have e : IntOp.minsi (f a) p = if (f a).toInt < p.toInt then f a else p := by
      simp [IntOp.minsi, BitVec.slt]
    rw [e]
    split
    · next h =>
      refine ⟨.inr ⟨a, Finset.mem_insert_self _ _, rfl⟩, fun k hk => ?_⟩
      rcases Finset.mem_insert.1 hk with rfl | hk
      · exact le_refl _
      · exact le_trans (le_of_lt h) (ih.2 k hk)
    · next h =>
      refine ⟨?_, fun k hk => ?_⟩
      · rcases ih.1 with h1 | ⟨k, hk, h1⟩
        · exact .inl h1
        · exact .inr ⟨k, Finset.mem_insert_of_mem hk, h1⟩
      · rcases Finset.mem_insert.1 hk with rfl | hk
        · exact not_lt.1 h
        · exact ih.2 k hk

theorem first_of_fold (E : Fin 1024 → EReal) (m : EReal) (hm : ∃ k, E k = m) (hle : ∀ k, m ≤ E k) (f : Fin 1024 → BitVec 32)
    (hf : ∀ k, f k = if E k = m then BitVec.ofNat 32 k.val else 1024#32) :
    IsArg E (Finset.univ.fold IntOp.minsi 2147483647#32 f) := by
  obtain ⟨h1, h2⟩ := fold_minsi f 2147483647#32 Finset.univ
  generalize Finset.univ.fold IntOp.minsi 2147483647#32 f = p at h1 h2
  obtain ⟨k0, hk0⟩ := hm
  have hp : p.toInt ≤ (k0.val : ℤ) := by
    have h := h2 k0 (Finset.mem_univ _)
    rwa [hf, if_pos hk0, toInt_small k0.val (by omega)] at h
  have hk0' := k0.isLt
  rcases h1 with rfl | ⟨k, -, rfl⟩
  · exact absurd hp (by rw [show (2147483647#32 : BitVec 32).toInt = 2147483647 by decide]; omega)
  · have hk : E k = m := by
      by_contra hne
      rw [hf, if_neg hne, show (1024#32 : BitVec 32).toInt = 1024 by decide] at hp
      omega
    refine ⟨k, by rw [hf, if_pos hk], fun j => hk ▸ hle j, fun j hj => lt_of_le_of_ne (hk ▸ hle j) fun he => ?_⟩
    have h := h2 j (Finset.mem_univ _)
    rw [hf, if_pos hk, hf, if_pos (he.symm.trans hk), toInt_small k.val (by omega), toInt_small j.val (by omega)] at h
    have hj' : j.val < k.val := hj
    omega

theorem fold_min_le (E : Fin 1024 → EReal) : (∃ k, E k = Finset.univ.fold min ⊤ E) ∧ ∀ k, Finset.univ.fold min ⊤ E ≤ E k := by
  have h : ∀ k, Finset.univ.fold min ⊤ E ≤ E k := fun k => (Finset.le_fold_min _).1 (le_refl _) |>.2 k (Finset.mem_univ _)
  refine ⟨?_, h⟩
  obtain ⟨i, -, hi⟩ := Finset.exists_min_image Finset.univ E ⟨0, Finset.mem_univ _⟩
  exact ⟨i, le_antisymm ((Finset.le_fold_min _).2 ⟨le_top, fun k hk => hi k hk⟩) (h i)⟩

theorem lift_row {R : ℕ} (h : Shape.Reduces ⟨2, ![R, 1024]⟩ [1] ⟨1, ![R]⟩) (r : Fin R) (k : Fin 1024) : h.lift (ix1 r) k = ix2 r k := by
  funext a
  match a with
  | 0 => rfl
  | 1 => rfl

theorem fold_row (v : IVec S512x1024 32) (r : Fin 512) :
    multiReductionI .minsi [1] S512 v 2147483647#32 reduces_S512x1024_S512 rfl (ix1 r)
      = Finset.univ.fold IntOp.minsi 2147483647#32 fun k : Fin 1024 => v (ix2 r k) := by
  refine (multiReductionI_eq_fold _ _ _ _ _ _).trans ((Shape.Reduces.fold_filter_drop_single _ _ _ _ _).trans ?_)
  refine Finset.fold_congr fun k _ => ?_
  exact congrArg v (lift_row reduces_S512x1024_S512 r k)

theorem ofBits_inf : Ideal.ofBits .f32 2139095040#32 = ⊤ := by simp [Ideal.ofBits, Ideal.ieee]

theorem pay8_isArg (x : FVec Ideal S512x64 .f32) (c : FVec Ideal S1024x64 .f32) (b : FVec Ideal S1x1024 .f32) (r : Fin 512) :
    IsArg (fun k => Ideal.sqrt (k0_pay7 (F := Ideal) x c b (ix2 r k))) (k0_pay8 (F := Ideal) x c b (ix1 r)) := by
  obtain ⟨h1, h2⟩ := fold_min_le (fun k => Ideal.sqrt (k0_pay7 (F := Ideal) x c b (ix2 r k)))
  unfold k0_pay8
  dsimp only
  refine Eq.mpr (congrArg (IsArg _) (fold_row _ r)) ?_
  refine first_of_fold _ _ h1 h2 _ fun k => ?_
  generalize k0_pay7 (F := Ideal) x c b = d
  pointwise
  rw [ofBits_inf]

/-! ## The reference's search -/

theorem foldl_choose {α : Type} (f : α → α → α) (le : α → α → Prop) (hr : ∀ a, le a a) (ht : ∀ a b c, le a b → le b c → le a c)
    (hf : ∀ a b, f a b = a ∨ f a b = b) (h1 : ∀ a b, le (f a b) a) (h2 : ∀ a b, le (f a b) b) : ∀ (l : List α) (a : α),
    (l.foldl f a = a ∨ l.foldl f a ∈ l) ∧ le (l.foldl f a) a ∧ ∀ q ∈ l, le (l.foldl f a) q
  | [], a => ⟨.inl rfl, hr a, fun q hq => absurd hq (List.not_mem_nil)⟩
  | b :: l, a => by
    obtain ⟨e, e1, e2⟩ := foldl_choose f le hr ht hf h1 h2 l (f a b)
    rw [List.foldl_cons]
    generalize l.foldl f (f a b) = p at e e1 e2
    refine ⟨?_, ht _ _ _ e1 (h1 a b), fun q hq => ?_⟩
    · rcases e with e | e
      · rcases hf a b with h | h
        · exact .inl (e.trans h)
        · exact .inr (by rw [e, h]; exact List.mem_cons_self)
      · exact .inr (List.mem_cons_of_mem _ e)
    · rcases List.mem_cons.1 hq with rfl | hq
      · exact ht _ _ _ e1 (h2 a q)
      · exact e2 q hq

/-- The order of (distance, column) pairs. -/
def lex (a b : EReal × BitVec 32) : Prop := a.1 < b.1 ∨ (a.1 = b.1 ∧ a.2.toInt ≤ b.2.toInt)

theorem reducer_cases (a b : EReal × BitVec 32) :
    ∃ p, Cert.ReferenceIdeal.reducer_argmin_f32_i32 (F := Ideal) a b = p ∧ (p = a ∨ p = b) ∧ lex p a ∧ lex p b := by
  refine ⟨_, rfl, ?_⟩
  obtain ⟨a1, a2⟩ := a
  obtain ⟨b1, b2⟩ := b
  by_cases h : a1 < b1
  · have e : Cert.ReferenceIdeal.reducer_argmin_f32_i32 (F := Ideal) (a1, a2) (b1, b2) = (a1, a2) := by
      simp [Cert.ReferenceIdeal.reducer_argmin_f32_i32, Ideal.cmpf_def, Ideal.cmp, IntOp.ori, IntOp.andi, IntOp.cmpi, Scalar.select, h]
      generalize (decide (a1 = b1) && a2.slt b2) = q
      cases q <;> simp
    rw [e]; exact ⟨.inl rfl, .inr ⟨rfl, le_refl _⟩, .inl h⟩
  · by_cases h' : a1 = b1 ∧ a2.toInt < b2.toInt
    · have e : Cert.ReferenceIdeal.reducer_argmin_f32_i32 (F := Ideal) (a1, a2) (b1, b2) = (a1, a2) := by
        obtain ⟨rfl, h2⟩ := h'
        simp [Cert.ReferenceIdeal.reducer_argmin_f32_i32, Ideal.cmpf_def, Ideal.cmp, IntOp.ori, IntOp.andi, IntOp.cmpi, Scalar.select, BitVec.slt, h2]
      rw [e]; exact ⟨.inl rfl, .inr ⟨rfl, le_refl _⟩, .inr ⟨h'.1, le_of_lt h'.2⟩⟩
    · have e : Cert.ReferenceIdeal.reducer_argmin_f32_i32 (F := Ideal) (a1, a2) (b1, b2) = (b1, b2) := by
        by_cases hab : a1 = b1
        · have h2 : ¬ a2.toInt < b2.toInt := fun h2 => h' ⟨hab, h2⟩
          subst hab
          simp [Cert.ReferenceIdeal.reducer_argmin_f32_i32, Ideal.cmpf_def, Ideal.cmp, IntOp.ori, IntOp.andi, IntOp.cmpi, Scalar.select, BitVec.slt, h2]
        · simp [Cert.ReferenceIdeal.reducer_argmin_f32_i32, Ideal.cmpf_def, Ideal.cmp, IntOp.ori, IntOp.andi, IntOp.cmpi, Scalar.select, h, hab]
      rw [e]; refine ⟨.inr rfl, ?_, .inr ⟨rfl, le_refl _⟩⟩
      rcases lt_or_eq_of_le (not_lt.1 h) with hl | he
      · exact .inl hl
      · exact .inr ⟨he, not_lt.1 fun h2 => h' ⟨he.symm, h2⟩⟩

theorem lex_trans (a b c : EReal × BitVec 32) (h : lex a b) (h' : lex b c) : lex a c := by
  rcases h with h | ⟨h, h1⟩ <;> rcases h' with h' | ⟨h', h1'⟩
  · exact .inl (lt_trans h h')
  · exact .inl (h' ▸ h)
  · exact .inl (h ▸ h')
  · exact .inr ⟨h.trans h', le_trans h1 h1'⟩

theorem arg_row {R : ℕ} {u : Shape} (d : FVec Ideal ⟨2, ![R, 1024]⟩ .f32) (y : IVec ⟨2, ![R, 1024]⟩ 32) (hy : ∀ n k, y (ix2 n k) = BitVec.ofNat 32 k.val)
    (ix : FVec Ideal u .f32) (hix : ∀ i, ix i = (⊤ : EReal)) (iy : IVec u 32) (hiy : ∀ i, iy i = 0#32)
    (h' : Shape.ReducesTo ⟨2, ![R, 1024]⟩ [1] ⟨1, ![R]⟩) (h : Shape.Reduces ⟨2, ![R, 1024]⟩ [1] ⟨1, ![R]⟩) (hu : 0 < u.numel) (n : Fin R) :
    IsArg (fun k => d (ix2 n k)) (Host.argReduce (F := Ideal) Cert.ReferenceIdeal.reducer_argmin_f32_i32 d y ix iy h' hu (ix1 n)).2 := by
  rw [Ideal.argReduce_eq_reduce2, Host.reduce2_eq_foldl_fiber, hix, hiy]
  obtain ⟨h1, h2, h3⟩ := foldl_choose (Cert.ReferenceIdeal.reducer_argmin_f32_i32 (F := Ideal)) lex (fun a => .inr ⟨rfl, le_refl _⟩) lex_trans
    (fun a b => by obtain ⟨p, e, hp, -, -⟩ := reducer_cases a b; rw [e]; exact hp)
    (fun a b => by obtain ⟨p, e, -, hp, -⟩ := reducer_cases a b; rw [e]; exact hp)
    (fun a b => by obtain ⟨p, e, -, -, hp⟩ := reducer_cases a b; rw [e]; exact hp)
    (Host.argReduceFiber d y h' (ix1 n)) ((⊤ : EReal), 0#32)
  have hmem : ∀ k : Fin 1024, ((d (ix2 n k) : EReal), BitVec.ofNat 32 k.val) ∈ Host.argReduceFiber d y h' (ix1 n) := fun k => by
    refine List.mem_map.2 ⟨Shape.rowMajor _ (ix2 n k), List.mem_filter.2 ⟨List.mem_finRange _, ?_⟩, ?_⟩
    · have e : h.drop (ix2 n k) = ix1 n := (congrArg h.drop (lift_row h n k)).symm.trans (Shape.Reduces.drop_lift h (ix1 n) k)
      rw [Equiv.symm_apply_apply, Shape.ReducesTo.drop_eq_drop h' h]; exact decide_eq_true e
    · rw [Equiv.symm_apply_apply, hy]
  have hof : ∀ q ∈ Host.argReduceFiber d y h' (ix1 n), ∃ k : Fin 1024, q = ((d (ix2 n k) : EReal), BitVec.ofNat 32 k.val) := fun q hq => by
    obtain ⟨i, hi, rfl⟩ := List.mem_map.1 hq
    have hi' := (List.mem_filter.1 hi).2
    rw [Shape.ReducesTo.drop_eq_drop h' h] at hi'
    have hd : h.drop ((Shape.rowMajor _).symm i) = ix1 n := of_decide_eq_true hi'
    have hl := Shape.Reduces.lift_drop h ((Shape.rowMajor _).symm i)
    rw [hd] at hl
    have hl' := (lift_row h n ((Shape.rowMajor _).symm i 1)).symm.trans hl
    refine ⟨(Shape.rowMajor _).symm i 1, ?_⟩
    have e1 : d ((Shape.rowMajor _).symm i) = d (ix2 n ((Shape.rowMajor _).symm i 1)) := congrArg d hl'.symm
    have e2 : y ((Shape.rowMajor _).symm i) = BitVec.ofNat 32 ((Shape.rowMajor _).symm i 1).val := (congrArg y hl'.symm).trans (hy _ _)
    exact Prod.ext e1 e2
  generalize (Host.argReduceFiber d y h' (ix1 n)).foldl Cert.ReferenceIdeal.reducer_argmin_f32_i32 ((⊤ : EReal), 0#32) = p at h1 h2 h3
  have hI : ∃ i : Fin 1024, p = ((d (ix2 n i) : EReal), BitVec.ofNat 32 i.val) := by
    rcases h1 with rfl | h1
    · refine ⟨0, ?_⟩
      rcases h3 _ (hmem 0) with h | ⟨h, -⟩
      · exact absurd h (not_top_lt)
      · exact Prod.ext h rfl
    · exact hof _ h1
  obtain ⟨i, rfl⟩ := hI
  refine ⟨i, rfl, fun k => ?_, fun k hk => ?_⟩
  · rcases h3 _ (hmem k) with h | ⟨h, -⟩
    · exact le_of_lt h
    · exact le_of_eq h
  · rcases h3 _ (hmem k) with h | ⟨-, h⟩
    · exact h
    · exfalso
      dsimp only at h
      rw [toInt_small _ (by omega), toInt_small _ (by omega)] at h
      have hk' : k.val < i.val := hk
      omega

theorem arg_fun (d : FVec Ideal Cert.ReferenceIdeal.S16384x1024 .f32) : Ref.arg (F := Ideal) d = fun j =>
    (Host.argReduce Cert.ReferenceIdeal.reducer_argmin_f32_i32 d (iotaInDim Cert.ReferenceIdeal.S16384x1024 32 1)
      (constant Cert.ReferenceIdeal.S_ .f32 0x7F800000#32) (constantI Cert.ReferenceIdeal.S_ 32 0#32)
      Cert.ReferenceIdeal.Gen.reducesTo_S16384x1024_S16384_d1 Cert.ReferenceIdeal.Gen.h_S_ j).2 := rfl

theorem iota_at (n : Fin 16384) (k : Fin 1024) : iotaInDim Cert.ReferenceIdeal.S16384x1024 32 1 (ix2 n k) = BitVec.ofNat 32 k.val := rfl

theorem reduces_row {R : ℕ} (h : Shape.ReducesTo ⟨2, ![R, 1024]⟩ [1] ⟨1, ![R]⟩) : Shape.Reduces ⟨2, ![R, 1024]⟩ [1] ⟨1, ![R]⟩ :=
  ⟨h.1, Nat.one_pos, h.2⟩

theorem arg_isArg (d : FVec Ideal Cert.ReferenceIdeal.S16384x1024 .f32) (n : Fin 16384) :
    IsArg (fun k => d (ix2 n k)) (Ref.arg (F := Ideal) d (ix1 n)) :=
  Eq.mpr (congrArg (IsArg _) (congrFun (arg_fun d) (ix1 n)))
    (arg_row (R := 16384) d (iotaInDim Cert.ReferenceIdeal.S16384x1024 32 1) iota_at
      (constant Cert.ReferenceIdeal.S_ .f32 0x7F800000#32) (fun _ => ofBits_inf) (constantI Cert.ReferenceIdeal.S_ 32 0#32) (fun _ => rfl)
      Cert.ReferenceIdeal.Gen.reducesTo_S16384x1024_S16384_d1 (reduces_row Cert.ReferenceIdeal.Gen.reducesTo_S16384x1024_S16384_d1) Cert.ReferenceIdeal.Gen.h_S_ n)

end Cert.Proof
-- ==== Proof.Dist.lean ====
/-
  The squared distances of the points from the codes: the kernel's and the reference's are one and the same number, so
  the nearest code of a point is one and the same row number in both.
-/
module

public import proofs.«01_k».proof.Proof.Arg

@[expose] public section

set_option maxRecDepth 16384

noncomputable section

namespace Cert.Proof

open Idealize.ShloMosaic
open Cert.KernelIdeal Cert.KernelIdeal.Gen
open Cert.Proof.Kern

/-- Two, as the programs write it. -/
def two : EReal := Ideal.ofBits .f32 0x40000000#32

/-- The squared distance of point `n` from code `k`, from a point's coordinates and a code's. -/
def sqd (p q : Fin 64 → EReal) : EReal := max ((∑ j, p j * p j) - two * (∑ j, p j * q j) + ∑ j, q j * q j) 0

abbrev d2 (x : FVec Ideal S16384x64 .f32) (c : FVec Ideal S1024x64 .f32) (n : Fin 16384) (k : Fin 1024) : EReal :=
  sqd (fun j => x (ix2 n j)) (fun j => c (ix2 k j))

/-- The kernel's order of a point's sum: eight strided columns, then halves, quarters and single ones. -/
theorem sum_tree (f : Fin 64 → EReal) :
    (((f 0 + f 8 + f 16 + f 24 + f 32 + f 40 + f 48 + f 56) + (f 4 + f 12 + f 20 + f 28 + f 36 + f 44 + f 52 + f 60)) + ((f 2 + f 10 + f 18 + f 26 + f 34 + f 42 + f 50 + f 58) + (f 6 + f 14 + f 22 + f 30 + f 38 + f 46 + f 54 + f 62))) + (((f 1 + f 9 + f 17 + f 25 + f 33 + f 41 + f 49 + f 57) + (f 5 + f 13 + f 21 + f 29 + f 37 + f 45 + f 53 + f 61)) + ((f 3 + f 11 + f 19 + f 27 + f 35 + f 43 + f 51 + f 59) + (f 7 + f 15 + f 23 + f 31 + f 39 + f 47 + f 55 + f 63)))
      = ∑ j, f j := by
  have e : ∑ j : Fin 64, f j = ∑ a : Fin 8, ∑ b : Fin 8, f (finProdFinEquiv (a, b)) :=
    (Equiv.sum_comp (finProdFinEquiv : Fin 8 × Fin 8 ≃ Fin 64) f).symm.trans (Fintype.sum_prod_type _)
  rw [e]
  simp only [Fin.sum_univ_eight]
  show _ = (f 0 + f 1 + f 2 + f 3 + f 4 + f 5 + f 6 + f 7) + (f 8 + f 9 + f 10 + f 11 + f 12 + f 13 + f 14 + f 15) + (f 16 + f 17 + f 18 + f 19 + f 20 + f 21 + f 22 + f 23) + (f 24 + f 25 + f 26 + f 27 + f 28 + f 29 + f 30 + f 31) + (f 32 + f 33 + f 34 + f 35 + f 36 + f 37 + f 38 + f 39) + (f 40 + f 41 + f 42 + f 43 + f 44 + f 45 + f 46 + f 47) + (f 48 + f 49 + f 50 + f 51 + f 52 + f 53 + f 54 + f 55) + (f 56 + f 57 + f 58 + f 59 + f 60 + f 61 + f 62 + f 63)
  ac_rfl

theorem norms_at (c : FVec Ideal S1024x64 .f32) (k : Fin 1024) : (norms (F := Ideal) c : FVec Ideal S1x1024 .f32) (ix2 0 k) = ∑ j : Fin 64, c (ix2 k j) * c (ix2 k j) := by
  unfold norms
  pointwise

theorem pay7_at (x : FVec Ideal S512x64 .f32) (c : FVec Ideal S1024x64 .f32) (b : FVec Ideal S1x1024 .f32) (hb : ∀ k, b (ix2 0 k) = ∑ j : Fin 64, c (ix2 k j) * c (ix2 k j))
    (r : Fin 512) (k : Fin 1024) :
    k0_pay7 (F := Ideal) x c b (ix2 r k) = sqd (fun j => x (ix2 r j)) (fun j => c (ix2 k j)) := by
  unfold k0_pay7 sqd two
  pointwise
  rw [hb, ← sum_tree (fun j => x (ix2 r j) * x (ix2 r j))]

theorem sq_at (x : FVec Ideal S16384x64 .f32) (c : FVec Ideal S1024x64 .f32) (n : Fin 16384) (k : Fin 1024) :
    Ref.sq (F := Ideal) x c (ix2 n k) = d2 x c n k := by
  unfold Ref.sq d2 sqd two
  pointwise

/-- The point at place `r` of block `t`. -/
abbrev at512 (t : Fin 32) (r : Fin 512) : Fin 16384 := ⟨512 * t.val + r.val, by omega⟩

theorem hostSqrt_at (v : FVec Ideal Cert.ReferenceIdeal.S16384x1024 .f32) (i : Cert.ReferenceIdeal.S16384x1024.Idx) :
    (Host.sqrt v : FVec Ideal Cert.ReferenceIdeal.S16384x1024 .f32) i = Ideal.sqrt (v i) := by
  pointwise

theorem cast_flat (v : IVec S32x1x512 32) (n : Fin 16384) : shapeCast S16384 v shapeCasts_S32x1x512_S16384 (ix1 n)
    = v (ix3 (⟨n.val / 512, by omega⟩ : Fin 32) 0 (⟨n.val % 512, by omega⟩ : Fin 512)) := by
  pointwise

/-- The number of point `n`'s nearest code. -/
theorem idx_isArg (x : FVec Ideal S16384x64 .f32) (c : FVec Ideal S1024x64 .f32) (n : Fin 16384) :
    IsArg (fun k => Ideal.sqrt (d2 x c n k)) (Ref.idx (F := Ideal) x c (ix1 n)) := by
  have h := arg_isArg (Host.sqrt (Ref.sq (F := Ideal) x c)) n
  have e : (fun k : Fin 1024 => (Host.sqrt (Ref.sq (F := Ideal) x c) : FVec Ideal Cert.ReferenceIdeal.S16384x1024 .f32) (ix2 n k)) = fun k => Ideal.sqrt (d2 x c n k) := by
    funext k
    exact (hostSqrt_at _ _).trans (congrArg Ideal.sqrt (sq_at x c n k))
  rw [e] at h
  exact h

theorem rowsOf_isArg (x : FVec Ideal S16384x64 .f32) (c : FVec Ideal S1024x64 .f32) (t : Fin 32) (r : Fin 512) :
    IsArg (fun k => Ideal.sqrt (d2 x c (at512 t r) k)) (rowsOf (F := Ideal) x c t.val t.isLt (ix1 r)) := by
  have h := pay8_isArg (blkX (F := Ideal) x t.val t.isLt) c (norms (F := Ideal) c) r
  have e : (fun k : Fin 1024 => Ideal.sqrt (k0_pay7 (F := Ideal) (blkX (F := Ideal) x t.val t.isLt) c (norms (F := Ideal) c) (ix2 r k))) = fun k => Ideal.sqrt (d2 x c (at512 t r) k) := by
    funext k
    rw [pay7_at _ _ _ (norms_at c)]
    rfl
  rw [e] at h
  exact h

theorem rowsOf_eq (x : FVec Ideal S16384x64 .f32) (c : FVec Ideal S1024x64 .f32) (t : Fin 32) (r : Fin 512) :
    rowsOf (F := Ideal) x c t.val t.isLt (ix1 r) = Ref.idx (F := Ideal) x c (ix1 (at512 t r)) :=
  (rowsOf_isArg x c t r).unique (idx_isArg x c (at512 t r))

variable (m : (ℓ : Loc nD τ sig) → Buf (Elt Ideal) ℓ)

/-- The row numbers the SparseCore call gathers at are the reference's. -/
theorem ixA_at (d : Dev nD) (n : Fin 16384) : (ixA m d : IVec S16384 32) (ix1 n)
    = Ref.idx (F := Ideal) (m ((d.tc : Thread nD τ).loc main_arg0)) (m ((d.tc : Thread nD τ).loc main_arg1)) (ix1 n) := by
  have hn := n.isLt
  have e : (ixA m d : IVec S16384 32) (ix1 n) = rowsG (V1 m) d (ix3 (⟨n.val / 512, by omega⟩ : Fin 32) 0 (⟨n.val % 512, by omega⟩ : Fin 512)) := by
    rw [ixA_eq m d]
    exact cast_flat _ n
  rw [e, rowsG_eq, rowsOf_eq]
  refine congrArg _ (congrArg ix1 (Fin.ext ?_))
  show 512 * (n.val / 512) + n.val % 512 = n.val
  omega

theorem rowsOk : RowsOk m := by
  intro d j
  obtain ⟨n, rfl⟩ : ∃ n : Fin 16384, j = ix1 n := ⟨j 0, eq_ix1 j⟩
  exact lt_of_eq_of_lt (congrArg BitVec.toNat (ixA_at m d n)) (idx_isArg _ _ n).lt

end Cert.Proof
-- ==== Proof.Sums.lean ====
/-
  The two running sums of the TensorCore call, read as sums over the points: the squared error and the counts.
-/
module

public import proofs.«01_k».proof.Proof.Dist

@[expose] public section

set_option maxRecDepth 16384

noncomputable section

namespace Cert.Proof

open Idealize.ShloMosaic
open Cert.KernelIdeal Cert.KernelIdeal.Gen
open Cert.Proof.Kern

theorem pay4_at (d : FVec Ideal S512x1024 .f32) (e : EReal) :
    k0_pay4 (F := Ideal) d e = e + ∑ r : Fin 512, Finset.univ.fold min ⊤ fun k : Fin 1024 => d (ix2 r k) := by
  unfold k0_pay4
  pointwise
  rw [ofBits_inf]

theorem cmp_eq (v w : BitVec 32) : IntOp.cmpi .eq v w = if v = w then 1#1 else 0#1 := by
  unfold IntOp.cmpi
  by_cases h : v = w
  · simp [h]
  · rw [if_neg h]; show BitVec.ofBool (v == w) = 0#1; rw [beq_eq_false_iff_ne.2 h]; rfl

theorem float_of_bit (v w : BitVec 32) :
    (FloatOps.sitofp (F := Ideal) .f32 (BitVec.setWidth 32 (IntOp.cmpi .eq v w)) : EReal) = if v = w then 1 else 0 := by
  rw [cmp_eq]
  by_cases h : v = w
  · rw [if_pos h, if_pos h]; show ((((BitVec.setWidth 32 1#1).toInt : ℤ) : ℝ) : EReal) = 1; simp
  · rw [if_neg h, if_neg h]; show ((((BitVec.setWidth 32 0#1).toInt : ℤ) : ℝ) : EReal) = 0; simp

theorem float_of_bit' (v w : BitVec 32) :
    (FloatOps.uitofp (F := Ideal) .f32 (IntOp.cmpi .eq v w) : EReal) = if v = w then 1 else 0 := by
  rw [cmp_eq]
  by_cases h : v = w
  · rw [if_pos h, if_pos h]; show ((((1#1).toNat : ℕ) : ℝ) : EReal) = 1; simp
  · rw [if_neg h, if_neg h]; show ((((0#1).toNat : ℕ) : ℝ) : EReal) = 0; simp

theorem pay3_at (i : IVec S512 32) (a : FVec Ideal S1x1024 .f32) (k : Fin 1024) :
    (k0_pay3 (F := Ideal) cols i a : FVec Ideal S1x1024 .f32) (ix2 0 k) = a (ix2 0 k) + ∑ r : Fin 512, if i (ix1 r) = BitVec.ofNat 32 k.val then (1 : EReal) else 0 := by
  unfold k0_pay3 cols
  pointwise
  exact congrArg _ (Finset.sum_congr rfl fun r _ => float_of_bit _ _)

theorem pay2_at (k : Fin 1024) : (k0_pay2 (F := Ideal) : FVec Ideal S1x1024 .f32) (ix2 0 k) = 0 := by
  unfold k0_pay2
  pointwise

theorem sse0_eq : (sse0 (F := Ideal) : EReal) = 0 := by
  unfold sse0
  pointwise

/-- The numbers the programs write: five quarters, a quarter, the count of entries, the count of points, its inverse and
    the small number under the logarithm. -/
def fiveQuarters : EReal := Ideal.ofBits .f32 0x3FA00000#32
def quarter : EReal := Ideal.ofBits .f32 0x3E800000#32
def entries : EReal := Ideal.ofBits .f32 0x49800000#32
def points : EReal := Ideal.ofBits .f32 0x46800000#32
def perPoint : EReal := Ideal.ofBits .f32 0x38800000#32
def tiny : EReal := Ideal.ofBits .f32 0x2EDBE6FF#32

/-- The perplexity of a distribution. -/
def perpOf (p : Fin 1024 → EReal) : EReal := Ideal.exp (-∑ k, p k * Ideal.log (p k + tiny))

theorem pay5_at (e : EReal) : shapeCast S_ (k0_pay5 (F := Ideal) e : FVec Ideal S1x1 .f32) shapeCasts_S1x1_S_ = fun _ => Ideal.div (fiveQuarters * e) entries := by
  funext j
  unfold k0_pay5 fiveQuarters entries
  pointwise

theorem pay6_at (a : FVec Ideal S1x1024 .f32) : shapeCast S_ (k0_pay6 (F := Ideal) a : FVec Ideal S1x1 .f32) shapeCasts_S1x1_S_
    = fun _ => perpOf fun k => a (ix2 0 k) * perPoint := by
  funext j
  unfold k0_pay6 perpOf perPoint tiny
  pointwise
  rw [sub_eq_add_neg, zero_add]; rfl

theorem loss_at (q x : FVec Ideal S16384x64 .f32) : Ref.loss (F := Ideal) q x = fun _ =>
    Ideal.div (∑ n : Fin 16384, ∑ j : Fin 64, (q (ix2 n j) - x (ix2 n j)) * (q (ix2 n j) - x (ix2 n j))) entries
      + quarter * Ideal.div (∑ n : Fin 16384, ∑ j : Fin 64, (q (ix2 n j) - x (ix2 n j)) * (q (ix2 n j) - x (ix2 n j))) entries := by
  funext j
  unfold Ref.loss Ref.mse quarter entries
  pointwise

theorem hot_at (i : IVec S16384 32)  (n : Fin 16384) (k : Fin 1024) :
    Ref.hot (F := Ideal) i (ix2 n k) = if i (ix1 n) = BitVec.ofNat 32 k.val then (1 : EReal) else 0 := by
  unfold Ref.hot
  pointwise
  exact float_of_bit' _ _

theorem prob_at (h : FVec Ideal Cert.ReferenceIdeal.S16384x1024 .f32) (k : Fin 1024) :
    Ref.prob (F := Ideal) h (ix1 k) = Ideal.div (∑ n : Fin 16384, h (ix2 n k)) points := by
  unfold Ref.prob points
  pointwise

theorem perp_at (p : FVec Ideal Cert.ReferenceIdeal.S1024 .f32) : Ref.perp (F := Ideal) p = fun _ => perpOf fun k => p (ix1 k) := by
  funext j
  unfold Ref.perp perpOf tiny
  pointwise

/-! ## Over the blocks -/

/-- A sum over the points, block by block. -/
theorem sum_blocks (G : Fin 16384 → EReal) : ∑ n, G n = ∑ t : Fin 32, ∑ r : Fin 512, G (at512 t r) := by
  have e : ∑ n : Fin 16384, G n = ∑ t : Fin 32, ∑ r : Fin 512, G (finProdFinEquiv (t, r)) :=
    (Equiv.sum_comp (finProdFinEquiv : Fin 32 × Fin 512 ≃ Fin 16384) G).symm.trans (Fintype.sum_prod_type _)
  rw [e]
  refine Finset.sum_congr rfl fun t _ => Finset.sum_congr rfl fun r _ => congrArg G (Fin.ext ?_)
  show r.val + 512 * t.val = 512 * t.val + r.val
  omega

theorem sse_acc (x : FVec Ideal S16384x64 .f32) (c : FVec Ideal S1024x64 .f32) : ∀ (n : ℕ) (h : n < 32),
    (accOf (F := Ideal) x c n h).2 = ∑ t : Fin (n + 1), ∑ r : Fin 512, Finset.univ.fold min ⊤ fun k : Fin 1024 => d2 x c (at512 ⟨t.val, by omega⟩ r) k
  | 0, h => by
    unfold accOf
    dsimp only
    unfold sseOut
    rw [pay4_at, sse0_eq, zero_add, Fin.sum_univ_one]
    refine Finset.sum_congr rfl fun r _ => congrArg (Finset.univ.fold min ⊤) (funext fun k => ?_)
    exact pay7_at _ _ _ (norms_at c) r k
  | n + 1, h => by
    unfold accOf
    dsimp only
    unfold sseOut
    rw [pay4_at, sse_acc x c n (Nat.lt_of_succ_lt h), Fin.sum_univ_castSucc (n := n + 1)]
    refine congrArg _ (Finset.sum_congr rfl fun r _ => congrArg (Finset.univ.fold min ⊤) (funext fun k => ?_))
    exact pay7_at _ _ _ (norms_at c) r k

theorem cnt_acc (x : FVec Ideal S16384x64 .f32) (c : FVec Ideal S1024x64 .f32) (k : Fin 1024) : ∀ (n : ℕ) (h : n < 32),
    ((accOf (F := Ideal) x c n h).1 : FVec Ideal S1x1024 .f32) (ix2 0 k) = ∑ t : Fin (n + 1), ∑ r : Fin 512,
      if Ref.idx (F := Ideal) x c (ix1 (at512 ⟨t.val, by omega⟩ r)) = BitVec.ofNat 32 k.val then (1 : EReal) else 0
  | 0, h => by
    unfold accOf
    dsimp only
    unfold cntOut
    rw [pay3_at, pay2_at, zero_add, Fin.sum_univ_one]
    refine Finset.sum_congr rfl fun r _ => ?_
    show _ = if Ref.idx (F := Ideal) x c (ix1 (at512 ⟨0, h⟩ r)) = _ then _ else _
    rw [← rowsOf_eq x c ⟨0, h⟩ r]; rfl
  | n + 1, h => by
    unfold accOf
    dsimp only
    unfold cntOut
    rw [pay3_at, cnt_acc x c k n (Nat.lt_of_succ_lt h), Fin.sum_univ_castSucc (n := n + 1)]
    refine congrArg _ (Finset.sum_congr rfl fun r _ => ?_)
    show _ = if Ref.idx (F := Ideal) x c (ix1 (at512 ⟨n + 1, h⟩ r)) = _ then _ else _
    rw [← rowsOf_eq x c ⟨n + 1, h⟩ r]; rfl

theorem sse_all (x : FVec Ideal S16384x64 .f32) (c : FVec Ideal S1024x64 .f32) :
    (accOf (F := Ideal) x c 31 (by omega)).2 = ∑ n : Fin 16384, Finset.univ.fold min ⊤ fun k : Fin 1024 => d2 x c n k :=
  (sse_acc x c 31 (by omega)).trans (sum_blocks fun n => Finset.univ.fold min ⊤ fun k : Fin 1024 => d2 x c n k).symm

theorem cnt_all (x : FVec Ideal S16384x64 .f32) (c : FVec Ideal S1024x64 .f32) (k : Fin 1024) :
    ((accOf (F := Ideal) x c 31 (by omega)).1 : FVec Ideal S1x1024 .f32) (ix2 0 k) = ∑ n : Fin 16384,
      if Ref.idx (F := Ideal) x c (ix1 n) = BitVec.ofNat 32 k.val then (1 : EReal) else 0 :=
  (cnt_acc x c k 31 (by omega)).trans (sum_blocks fun n => if Ref.idx (F := Ideal) x c (ix1 n) = BitVec.ofNat 32 k.val then (1 : EReal) else 0).symm

/-! ## The perplexity -/

theorem perPoint_eq (a : EReal) : a * perPoint = Ideal.div a points := by
  have h1 : points = ((16384 : ℝ) : EReal) := by unfold points; simp [Ideal.ofBits, Ideal.ieee, -EReal.coe_mul]; norm_num
  have h2 : perPoint = ((16384⁻¹ : ℝ) : EReal) := by unfold perPoint; simp [Ideal.ofBits, Ideal.ieee, -EReal.coe_mul]; norm_num
  unfold Ideal.div
  rw [h1, h2, if_neg (by norm_cast), EReal.coe_inv]

/-- The perplexities agree. -/
theorem perplexity_eq (x : FVec Ideal S16384x64 .f32) (c : FVec Ideal S1024x64 .f32) :
    shapeCast S_ (k0_pay6 (F := Ideal) (accOf (F := Ideal) x c 31 (by omega)).1 : FVec Ideal S1x1 .f32) shapeCasts_S1x1_S_
      = Ref.perp (F := Ideal) (Ref.prob (F := Ideal) (Ref.hot (F := Ideal) (Ref.idx (F := Ideal) x c))) := by
  rw [perp_at]
  refine (pay6_at _).trans (funext fun _ => congrArg perpOf (funext fun k => ?_))
  rw [prob_at, perPoint_eq, cnt_all]
  exact congrArg (Ideal.div · points) (Finset.sum_congr rfl fun n _ => (hot_at _ n k).symm)

end Cert.Proof
-- ==== Proof.Take.lean ====
/-
  The rows taken: the reference's `take` and the kernel's gather both read, at a point, the row of the codebook that the
  point's number names.
-/
module

public import proofs.«01_k».proof.Proof.Sums
public import Idealize.ShloMosaic.Lib.ReduceAll

@[expose] public section

set_option maxRecDepth 16384

noncomputable section

namespace Cert.Proof

open Idealize.ShloMosaic
open Cert.KernelIdeal Cert.KernelIdeal.Gen
open Cert.Proof.Kern

/-- The printed take of whole rows: the row at the start index, read signed and held inside the table. -/
theorem gather_row {α : Type} (c : Cert.ReferenceIdeal.S1024x64.Idx → α) (col : IVec Cert.ReferenceIdeal.S16384x1 32) (n : Fin 16384) (j : Fin 64) :
    Host.gather Cert.ReferenceIdeal.gather_S1024x64_S16384x1_S16384x64_1_0_n_n_0_1_164 c col (ix2 n j)
      = c (ix2 (⟨min (col (ix2 n 0)).toInt.toNat 1023, by omega⟩ : Fin 1024) j) := by
  unfold Host.gather
  refine congrArg c (funext fun a => Fin.ext ?_)
  generalize hg : Cert.ReferenceIdeal.gather_S1024x64_S16384x1_S16384x64_1_0_n_n_0_1_164 = g
  show g.start (ix2 n j) col a + g.batchCoord (ix2 n j) a + g.offCoord (ix2 n j) a = _
  subst hg
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => List.not_mem_nil h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S1024x64_S16384x1_S16384x64_1_0_n_n_0_1_164.startIndexMap from List.mem_singleton.mpr rfl)]
    refine congrArg (fun q => min (col q).toInt.toNat 1023) (funext fun b => Fin.ext ?_)
    match b with
    | ⟨0, _⟩ => rfl
    | ⟨1, _⟩ => rfl
  · rw [GatherDims.batchCoord_eq_zero _ _ _ (fun h => List.not_mem_nil h)]
    unfold GatherDims.start
    rw [dif_neg (by decide)]
    simp only [Nat.zero_add]
    rfl

theorem col_at (ix : IVec S16384 32) (n : Fin 16384) (i : Fin 1024) (h : ix (ix1 n) = BitVec.ofNat 32 i.val) :
    Ref.takeCol ix (ix2 n 0) = BitVec.ofNat 32 i.val := by
  have e : Ref.takeCol ix (ix2 n 0) = Scalar.select (IntOp.cmpi .slt (ix (ix1 n)) 0#32) (ix (ix1 n) + 1024#32) (ix (ix1 n)) := by
    unfold Ref.takeCol
    pointwise
    try rfl
  have e0 : IntOp.cmpi .slt (BitVec.ofNat 32 i.val) 0#32 = 0#1 := by
    have hi := i.isLt
    show BitVec.ofBool ((BitVec.ofNat 32 i.val).slt 0#32) = 0#1
    have : (BitVec.ofNat 32 i.val).slt 0#32 = false := by
      rw [BitVec.slt, toInt_small _ (by omega)]; simp
    rw [this]; rfl
  rw [e, h, e0]; rfl

theorem ok_at (ix : IVec S16384 32) (h : ∀ n : Fin 16384, ∃ i : Fin 1024, ix (ix1 n) = BitVec.ofNat 32 i.val) (j : Cert.ReferenceIdeal.S16384.Idx) :
    Ref.takeOk ix j = 1#1 := by
  unfold Ref.takeOk
  refine Host.reduce_andi_one _ _ _ _ _ rfl fun y => ?_
  obtain ⟨n, k, rfl⟩ : ∃ (n : Fin 16384) (k : Fin 1), y = ix2 n k := ⟨y 0, y 1, eq_ix2 y⟩
  obtain rfl : k = 0 := Subsingleton.elim _ _
  obtain ⟨i, hi⟩ := h n
  have hc := col_at ix n i hi
  generalize Ref.takeCol ix = col at hc
  have hlt := i.isLt
  pointwise
  rw [hc]
  have h1 : IntOp.cmpi .sge (BitVec.ofNat 32 i.val) 0#32 = 1#1 := by
    show BitVec.ofBool ((0#32 : BitVec 32).sle (BitVec.ofNat 32 i.val)) = 1#1
    have : (0#32 : BitVec 32).sle (BitVec.ofNat 32 i.val) = true := by
      rw [BitVec.sle, show (0#32 : BitVec 32).toInt = 0 by decide, toInt_small _ (by omega)]; simp
    rw [this]; rfl
  have h2 : IntOp.cmpi .sle (BitVec.ofNat 32 i.val) 1023#32 = 1#1 := by
    show BitVec.ofBool ((BitVec.ofNat 32 i.val).sle 1023#32) = 1#1
    have : (BitVec.ofNat 32 i.val).sle 1023#32 = true := by
      rw [BitVec.sle, toInt_small _ (by omega), show (1023#32 : BitVec 32).toInt = 1023 by decide]; simp; omega
    rw [this]; rfl
  rw [h1, h2]; rfl

theorem take_at (c : FVec Ideal S1024x64 .f32) (ix : IVec S16384 32) (h : ∀ n : Fin 16384, ∃ i : Fin 1024, ix (ix1 n) = BitVec.ofNat 32 i.val)
    (n : Fin 16384) (i : Fin 1024) (hi : ix (ix1 n) = BitVec.ofNat 32 i.val) (j : Fin 64) :
    (Ref.take (F := Ideal) c ix : FVec Ideal S16384x64 .f32) (ix2 n j) = c (ix2 i j) := by
  have e : (Ref.take (F := Ideal) c ix : FVec Ideal S16384x64 .f32) (ix2 n j)
      = Scalar.select (Ref.takeOk ix (ix1 n)) (Host.gather Cert.ReferenceIdeal.gather_S1024x64_S16384x1_S16384x64_1_0_n_n_0_1_164 c (Ref.takeCol ix) (ix2 n j))
        (Ideal.ofBits .f32 0x7FC00000#32) := by
    unfold Ref.take
    generalize Ref.takeOk ix = ok
    generalize Host.gather Cert.ReferenceIdeal.gather_S1024x64_S16384x1_S16384x64_1_0_n_n_0_1_164 c (Ref.takeCol ix) = g
    pointwise
  rw [e, ok_at ix h, gather_row]
  show c _ = c _
  refine congrArg (fun k => c (ix2 k j)) (Fin.ext ?_)
  have hlt := i.isLt
  show min (Ref.takeCol ix (ix2 n 0)).toInt.toNat 1023 = i.val
  rw [col_at ix n i hi, toInt_small _ (by omega)]
  omega

variable (m : (ℓ : Loc nD τ sig) → Buf (Elt Ideal) ℓ)

theorem pad_at (c : FVec Ideal S1024x64 .f32) (z : FVec Ideal S_ .f32) (i : Fin 1024) (j : Fin 64) :
    pad S1024x128 ![0, 0] ![0, 64] ![0, 0] c z pads_S1024x64_S1024x128_000_0640 h_S_ (ix2 i ⟨j.val, by omega⟩) = c (ix2 i j) := by
  pointwise

theorem slice_at (v : FVec Ideal S16384x128 .f32) (n : Fin 16384) (j : Fin 64) :
    extractStridedSlice S16384x64 ![0, 0] v slices_S16384x128_S16384x64_0_0 (ix2 n j) = v (ix2 n ⟨j.val, by omega⟩) := by
  pointwise

theorem gathered_at (tab : FVec Ideal S1024x128 .f32) (ix : IVec S16384 32) (n : Fin 16384) (i : Fin 1024) (hi : ix (ix1 n) = BitVec.ofNat 32 i.val) (j : Fin 128) :
    gathered (F := Ideal) tab ix (ix2 n j) = tab (ix2 i j) := by
  have hlt := i.isLt
  unfold gathered
  refine congrArg tab (funext fun a => ?_)
  match a with
  | 0 =>
    refine Fin.ext ?_
    refine (congrArg (fun q : S16384.Idx => (ix q).toNat % 1024) (eq_ix1 _)).trans ?_
    show (ix (ix1 n)).toNat % 1024 = i.val
    rw [hi, BitVec.toNat_ofNat]
    omega
  | 1 => rfl

/-- Two arrays, the points and the codebook, of real numbers. -/
def Real2 (x : FVec Ideal S16384x64 .f32) (c : FVec Ideal S1024x64 .f32) : Prop :=
  (∃ X : Fin 16384 → Fin 64 → ℝ, ∀ n j, x (ix2 n j) = (X n j : EReal)) ∧ ∃ C : Fin 1024 → Fin 64 → ℝ, ∀ k j, c (ix2 k j) = (C k j : EReal)

theorem idx_row (x : FVec Ideal S16384x64 .f32) (c : FVec Ideal S1024x64 .f32) (n : Fin 16384) :
    ∃ i : Fin 1024, Ref.idx (F := Ideal) x c (ix1 n) = BitVec.ofNat 32 i.val :=
  let ⟨i, hi, _⟩ := idx_isArg x c n; ⟨i, hi⟩

/-- The kernel's rows are the codebook's, at the numbers. -/
theorem kernel_row (d : Dev nD) (n : Fin 16384) (i : Fin 1024)
    (hi : Ref.idx (F := Ideal) (m ((d.tc : Thread nD τ).loc main_arg0)) (m ((d.tc : Thread nD τ).loc main_arg1)) (ix1 n) = BitVec.ofNat 32 i.val) (j : Fin 64) :
    (extractStridedSlice S16384x64 ![0, 0] (res (ixA m) (tabA m) d : FVec Ideal S16384x128 .f32) slices_S16384x128_S16384x64_0_0 : FVec Ideal S16384x64 .f32) (ix2 n j)
      = (m ((d.tc : Thread nD τ).loc main_arg1) : FVec Ideal S1024x64 .f32) (ix2 i j) := by
  refine (slice_at _ n j).trans ?_
  refine (gathered_at (tabA m d) (ixA m d) n i ((ixA_at m d n).trans hi) _).trans ?_
  refine (congrFun (tabA_eq m d) _).trans ?_
  exact pad_at _ _ i j

/-- The quantised points agree. -/
theorem quant_eq (d : Dev nD) (h : Real2 (m ((d.tc : Thread nD τ).loc main_arg0)) (m ((d.tc : Thread nD τ).loc main_arg1))) :
    (extractStridedSlice S16384x64 ![0, 0] (res (ixA m) (tabA m) d : FVec Ideal S16384x128 .f32) slices_S16384x128_S16384x64_0_0 : FVec Ideal S16384x64 .f32)
      = addf (F := Ideal) (m ((d.tc : Thread nD τ).loc main_arg0) : FVec Ideal S16384x64 .f32)
        (subf (F := Ideal) (Ref.take (F := Ideal) (m ((d.tc : Thread nD τ).loc main_arg1)) (Ref.idx (F := Ideal) (m ((d.tc : Thread nD τ).loc main_arg0)) (m ((d.tc : Thread nD τ).loc main_arg1)))) (m ((d.tc : Thread nD τ).loc main_arg0) : FVec Ideal S16384x64 .f32)) := by
  funext y
  obtain ⟨n, j, rfl⟩ : ∃ (n : Fin 16384) (j : Fin 64), y = ix2 n j := ⟨y 0, y 1, eq_ix2 y⟩
  obtain ⟨i, hi⟩ := idx_row (m ((d.tc : Thread nD τ).loc main_arg0)) (m ((d.tc : Thread nD τ).loc main_arg1)) n
  refine (kernel_row m d n i hi j).trans ?_
  obtain ⟨⟨X, hX⟩, C, hC⟩ := h
  have ht := take_at (m ((d.tc : Thread nD τ).loc main_arg1)) _ (idx_row (m ((d.tc : Thread nD τ).loc main_arg0)) (m ((d.tc : Thread nD τ).loc main_arg1))) n i hi j
  rw [hC] at ht
  refine Eq.trans (hC i j) ?_
  have e : ∀ x t : FVec Ideal S16384x64 .f32, (addf (F := Ideal) x (subf (F := Ideal) t x) : FVec Ideal S16384x64 .f32) (ix2 n j) = x (ix2 n j) + (t (ix2 n j) - x (ix2 n j)) := fun x t => by
    pointwise
  refine Eq.trans ?_ (e _ _).symm
  rw [ht, hX, ← EReal.coe_sub, ← EReal.coe_add]
  exact congrArg (fun r : ℝ => (r : EReal)) (by ring)

/-! ## The loss -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem two_eq : two = ((2 : ℝ) : EReal) := by unfold two; simp [Ideal.ofBits, Ideal.ieee, -EReal.coe_mul]; norm_num

/-- The squared distance of two rows of real numbers. -/
def rsq (p q : Fin 64 → ℝ) : ℝ := ∑ j, (q j - p j) * (q j - p j)

theorem rsq_nonneg (p q : Fin 64 → ℝ) : 0 ≤ rsq p q := Finset.sum_nonneg fun j _ => mul_self_nonneg _

theorem sqd_real (p q : Fin 64 → ℝ) : sqd (fun j => (p j : EReal)) (fun j => (q j : EReal)) = (rsq p q : EReal) := by
  unfold sqd
  rw [two_eq]
  simp only [← EReal.coe_mul, coe_sum, ← EReal.coe_sub, ← EReal.coe_add]
  have e : (∑ j, p j * p j) - 2 * (∑ j, p j * q j) + ∑ j, q j * q j = rsq p q := by
    unfold rsq
    rw [Finset.mul_sum, ← Finset.sum_sub_distrib, ← Finset.sum_add_distrib]
    exact Finset.sum_congr rfl fun j _ => by ring
  rw [e, max_eq_left]
  exact_mod_cast rsq_nonneg p q

theorem sqrt_real (r : ℝ) (h : 0 ≤ r) : Ideal.sqrt ((r : ℝ) : EReal) = ((Real.sqrt r : ℝ) : EReal) := by
  show (if r < 0 then (⊥ : EReal) else ((Real.sqrt r : ℝ) : EReal)) = _
  rw [if_neg (not_lt.2 h)]

/-- The least squared distance is the one from the code the number names. -/
theorem least_eq (x : FVec Ideal S16384x64 .f32) (c : FVec Ideal S1024x64 .f32) (X : Fin 16384 → Fin 64 → ℝ) (hX : ∀ n j, x (ix2 n j) = (X n j : EReal))
    (C : Fin 1024 → Fin 64 → ℝ) (hC : ∀ k j, c (ix2 k j) = (C k j : EReal)) (n : Fin 16384) (i : Fin 1024)
    (hi : Ref.idx (F := Ideal) x c (ix1 n) = BitVec.ofNat 32 i.val) :
    (Finset.univ.fold min ⊤ fun k : Fin 1024 => d2 x c n k) = (rsq (X n) (C i) : EReal) := by
  have hd : ∀ k, d2 x c n k = (rsq (X n) (C k) : EReal) := fun k => by
    rw [← sqd_real]; exact congrArg₂ sqd (funext fun j => hX n j) (funext fun j => hC k j)
  obtain ⟨i', h1, h2, -⟩ := idx_isArg x c n
  obtain rfl : i = i' := by
    have h := congrArg BitVec.toNat (hi.symm.trans h1)
    rw [BitVec.toNat_ofNat, BitVec.toNat_ofNat] at h
    have a := i.isLt
    have b := i'.isLt
    exact Fin.ext (by omega)
  obtain ⟨⟨k, hk⟩, hle⟩ := fold_min_le (fun k => d2 x c n k)
  refine le_antisymm ((hle i).trans_eq (hd i)) ?_
  rw [← hk]
  have h : Ideal.sqrt (d2 x c n i) ≤ Ideal.sqrt (d2 x c n k) := h2 k
  rw [hd, hd, sqrt_real _ (rsq_nonneg _ _), sqrt_real _ (rsq_nonneg _ _), EReal.coe_le_coe_iff, Real.sqrt_le_sqrt_iff (rsq_nonneg _ _)] at h
  show _ ≤ d2 x c n k
  rw [hd]
  exact_mod_cast h

theorem quarter_eq : quarter = ((1/4 : ℝ) : EReal) := by unfold quarter; simp [Ideal.ofBits, Ideal.ieee, -EReal.coe_mul]; norm_num
theorem fiveQuarters_eq : fiveQuarters = ((5/4 : ℝ) : EReal) := by unfold fiveQuarters; simp [Ideal.ofBits, Ideal.ieee, -EReal.coe_mul]; norm_num
theorem entries_eq : entries = ((1048576 : ℝ) : EReal) := by unfold entries; simp [Ideal.ofBits, Ideal.ieee, -EReal.coe_mul]; norm_num

theorem div_entries (r : ℝ) : Ideal.div (r : EReal) entries = ((r * 1048576⁻¹ : ℝ) : EReal) := by
  unfold Ideal.div
  rw [entries_eq, if_neg (by norm_cast), EReal.coe_mul, EReal.coe_inv]

/-- The losses agree. -/
theorem loss_eq (x : FVec Ideal S16384x64 .f32) (c : FVec Ideal S1024x64 .f32) (h : Real2 x c) :
    shapeCast S_ (k0_pay5 (F := Ideal) (accOf (F := Ideal) x c 31 (by omega)).2 : FVec Ideal S1x1 .f32) shapeCasts_S1x1_S_
      = Ref.loss (F := Ideal) (Ref.take (F := Ideal) c (Ref.idx (F := Ideal) x c)) x := by
  rw [loss_at]
  refine (pay5_at _).trans (funext fun _ => ?_)
  rw [sse_all]
  obtain ⟨⟨X, hX⟩, C, hC⟩ := h
  choose i hi using idx_row x c
  have e1 : (∑ n : Fin 16384, Finset.univ.fold min ⊤ fun k : Fin 1024 => d2 x c n k) = ((∑ n, rsq (X n) (C (i n)) : ℝ) : EReal) := by
    rw [← coe_sum]
    exact Finset.sum_congr rfl fun n _ => least_eq x c X hX C hC n (i n) (hi n)
  have e2 : (∑ n : Fin 16384, ∑ j : Fin 64, ((Ref.take (F := Ideal) c (Ref.idx (F := Ideal) x c) : FVec Ideal S16384x64 .f32) (ix2 n j) - x (ix2 n j)) * ((Ref.take (F := Ideal) c (Ref.idx (F := Ideal) x c) : FVec Ideal S16384x64 .f32) (ix2 n j) - x (ix2 n j)))
      = ((∑ n, rsq (X n) (C (i n)) : ℝ) : EReal) := by
    rw [← coe_sum]
    refine Finset.sum_congr rfl fun n _ => ?_
    unfold rsq
    rw [← coe_sum]
    refine Finset.sum_congr rfl fun j _ => ?_
    rw [take_at c _ (idx_row x c) n (i n) (hi n) j, hX, hC, ← EReal.coe_sub, ← EReal.coe_mul]
  rw [e1, e2, fiveQuarters_eq, quarter_eq, ← EReal.coe_mul, div_entries, div_entries, ← EReal.coe_mul, ← EReal.coe_add]
  exact congrArg (fun r : ℝ => (r : EReal)) (by ring)

end Cert.Proof
-- ==== Proof.Frames.lean ====
/-
  Both programs run to their end from every start, leave their two arguments as they were and every semaphore at zero.
-/
module

public import proofs.«01_k».proof.Proof.Dist

@[expose] public section

noncomputable section

namespace Cert.Proof

open Idealize.ShloMosaic Idealize.SL.Sem

theorem frame_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun r h => ⟨fun c => ⟨(h.1 c).2.2.2.1, (h.1 c).2.2.2.2⟩, h.2⟩) (Kern.run_values m g (rowsOk m))

theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h.1 c).2.2.2.1, (h.1 c).2.2.2.2⟩, h.2⟩) (Ref.run_main m g)

end Cert.Proof
-- ==== Proof.Values.lean ====
/-
  The three results agree whenever every entry of the two arrays is a real number.
-/
module

public import proofs.«01_k».proof.Proof.Take
public import proofs.«01_k».proof.Proof.Frames

@[expose] public section

set_option maxRecDepth 16384

noncomputable section

namespace Cert.Proof

open Idealize.ShloMosaic Idealize.SL.Sem

/-- The precondition's shape relations. -/
theorem pre_facts : Cert.Pre_finite.Facts where
  bcast_S_S16384x64 := by decide
  reducesTo_S16384x64_S_d0_1 := by decide
  h_S_ := by decide
  bcast_S_S1024x64 := by decide
  reducesTo_S1024x64_S_d0_1 := by decide

/-- A number whose magnitude is below infinity is real. -/
theorem real_of_abs (e : EReal) (h : max e (-e) < ⊤) : ∃ r : ℝ, e = (r : EReal) := by
  induction e with
  | bot => simp at h
  | top => simp at h
  | coe r => exact ⟨r, rfl⟩

theorem real_of_bit (e : EReal) (h : Ideal.cmp .olt (max e (-e)) ⊤ = 1#1) : ∃ r : ℝ, e = (r : EReal) := by
  refine real_of_abs e ?_
  by_contra hn
  have : Ideal.cmp .olt (max e (-e)) ⊤ = 0#1 := by
    show BitVec.ofBool (decide (max e (-e) < ⊤)) = 0#1
    rw [decide_eq_false hn]; rfl
  rw [this] at h
  exact absurd h (by decide)

instance : Subsingleton Cert.Pre_finite.S_.Idx := ⟨fun a b => funext fun i => i.elim0⟩

/-- The precondition says that the entries are real. -/
theorem real_of_pre [hPre_finite : Cert.Pre_finite.Facts] (x : FVec Ideal Cert.KernelIdeal.S16384x64 .f32) (c : FVec Ideal Cert.KernelIdeal.S1024x64 .f32)
    (h : Cert.Pre_finite.fn (F := Ideal) x c = fun _ => 1#1) : Real2 x c := by
  have h0 := congrFun h (fun i => i.elim0)
  unfold Cert.Pre_finite.fn at h0
  dsimp only at h0
  obtain ⟨hx, hc⟩ := IntOp.andi_eq_one.1 h0
  constructor
  · have hr : ∀ n j, ∃ r : ℝ, x (ix2 n j) = (r : EReal) := fun n j => by
      have hb := Host.reduce_andi_all _ _ _ _ _ hx (ix2 n j)
      refine real_of_bit (x (ix2 n j)) ?_
      rw [← ofBits_inf]
      refine Eq.trans ?_ hb
      symm
      pointwise
      try rfl
    choose X hX using hr
    exact ⟨X, hX⟩
  · have hr : ∀ n j, ∃ r : ℝ, c (ix2 n j) = (r : EReal) := fun n j => by
      have hb := Host.reduce_andi_all _ _ _ _ _ hc (ix2 n j)
      refine real_of_bit (c (ix2 n j)) ?_
      rw [← ofBits_inf]
      refine Eq.trans ?_ hb
      symm
      pointwise
      try rfl
    choose C hC using hr
    exact ⟨C, hC⟩

/-- The kernel and the reference run to one and the same three results. -/
theorem same_results [hPre_finite : Cert.Pre_finite.Facts] :
    Cert.algebraic_KernelIdeal_ReferenceIdeal_pre_finite := by
  intro m g m' g' hp hm
  refine ⟨_, _, _, (θ_run _ _ _).mono (fun r h c => h.1 c) (Kern.run_values m g (rowsOk m)), ?_⟩
  refine (θ_run _ _ _).mono (fun r h c => ?_) (Ref.run_main m' g')
  obtain ⟨h1, h2, h3, h4, h5⟩ := h.1 c
  obtain ⟨e0, e1⟩ := hm c
  have hreal := real_of_pre _ _ (hp c)
  refine ⟨h1.trans ?_, h2.trans ?_, h3.trans ?_, h4, h5⟩
  · rw [e0, e1]; exact (loss_eq _ _ hreal).symm
  · rw [e0, e1]; exact (quant_eq m c hreal).symm
  · rw [e0, e1]; exact (perplexity_eq _ _).symm

end Cert.Proof
-- ==== Proof.lean ====
/-
  The certificate: every claim of `Cert.Claim`.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Values
public import Idealize.ShloMosaic.Adequacy
public import Idealize.ShloMosaic.Init

@[expose] public section

noncomputable section

namespace Cert.Proof

open Idealize.ShloMosaic Idealize.SL.Sem

theorem claim : Cert.Claim := ⟨Cert.KernelIdeal.Gen.facts, Cert.ReferenceIdeal.Gen.facts, pre_facts,
  fun m g _ => frame_kernel m g, fun m g _ => frame_kernel m g, fun m g _ => frame_reference m g, fun m g _ => frame_reference m g,
  same_results (hPre_finite := pre_facts)⟩

end Cert.Proof

end
